-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)) (v3 : (c : Dev Cert.KernelIdeal.nD) → Buf (Elt Ideal) ((c.tc : Thread Cert.KernelIdeal.nD Cert.KernelIdeal.τ).loc Cert.KernelIdeal.main_v31_3)) (v4 : (c : Dev Cert.KernelIdeal.nD) → Buf (Elt Ideal) ((c.tc : Thread Cert.KernelIdeal.nD Cert.KernelIdeal.τ).loc Cert.KernelIdeal.main_v31_4)) (v5 : (c : Dev Cert.KernelIdeal.nD) → Buf (Elt Ideal) ((c.tc : Thread Cert.KernelIdeal.nD Cert.KernelIdeal.τ).loc Cert.KernelIdeal.main_v31_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_v31_3) = v3 c
          ∧ r.2.mem ((c.tc : Thread Cert.KernelIdeal.nD Cert.KernelIdeal.τ).loc Cert.KernelIdeal.main_v31_4) = v4 c
          ∧ r.2.mem ((c.tc : Thread Cert.KernelIdeal.nD Cert.KernelIdeal.τ).loc Cert.KernelIdeal.main_v31_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_v84) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x8192 : Shape := ⟨3, ![1, 2048, 8192]⟩
abbrev S8192 : Shape := ⟨1, ![8192]⟩
abbrev S2048x8192 : Shape := ⟨2, ![2048, 8192]⟩
abbrev S1x8192 : Shape := ⟨2, ![1, 8192]⟩
abbrev S1024 : Shape := ⟨1, ![1024]⟩
abbrev S1024x1 : Shape := ⟨2, ![1024, 1]⟩
abbrev S_ : Shape := ⟨0, ![]⟩
abbrev S128 : Shape := ⟨1, ![128]⟩
abbrev S1x128 : Shape := ⟨2, ![1, 128]⟩
abbrev S1024x128 : Shape := ⟨2, ![1024, 128]⟩
abbrev S64 : Shape := ⟨1, ![64]⟩
abbrev S64x1 : Shape := ⟨2, ![64, 1]⟩
abbrev S64x8192 : Shape := ⟨2, ![64, 8192]⟩
abbrev S2048x64 : Shape := ⟨2, ![2048, 64]⟩
abbrev S2048x1024 : Shape := ⟨2, ![2048, 1024]⟩
abbrev S1x2048 : Shape := ⟨2, ![1, 2048]⟩
abbrev S128x8192 : Shape := ⟨2, ![128, 8192]⟩
abbrev S128x64 : Shape := ⟨2, ![128, 64]⟩
abbrev S128x1024 : Shape := ⟨2, ![128, 1024]⟩
abbrev S128x128 : Shape := ⟨2, ![128, 128]⟩
abbrev S32x128 : Shape := ⟨2, ![32, 128]⟩
abbrev S128x1 : Shape := ⟨2, ![128, 1]⟩
abbrev S32 : Shape := ⟨1, ![32]⟩
abbrev S32x1 : Shape := ⟨2, ![32, 1]⟩
abbrev S64x1024 : Shape := ⟨2, ![64, 1024]⟩

abbrev nBuf : Space → Nat
  | .hbm => 103
  | .vmem => 27
  | .smem => 0
  | _ => 0

abbrev bufTy : (tb : Table) → Fin (tcTables nBuf tb) → BufTy
  | .hbm, ⟨0, _⟩ => ⟨S1x2048x8192, .bf16⟩
  | .hbm, ⟨1, _⟩ => ⟨S1x2048x8192, .bf16⟩
  | .hbm, ⟨2, _⟩ => ⟨S8192, .f32⟩
  | .hbm, ⟨3, _⟩ => ⟨S1x2048x8192, .i32⟩
  | .hbm, ⟨4, _⟩ => ⟨S8192, .f32⟩
  | .hbm, ⟨5, _⟩ => ⟨S8192, .f32⟩
  | .hbm, ⟨6, _⟩ => ⟨S2048x8192, .bf16⟩
  | .hbm, ⟨7, _⟩ => ⟨S2048x8192, .bf16⟩
  | .hbm, ⟨8, _⟩ => ⟨S2048x8192, .i32⟩
  | .hbm, ⟨9, _⟩ => ⟨S1x8192, .f32⟩
  | .hbm, ⟨10, _⟩ => ⟨S1x8192, .f32⟩
  | .hbm, ⟨11, _⟩ => ⟨S1x8192, .f32⟩
  | .hbm, ⟨12, _⟩ => ⟨S1024, .i32⟩
  | .hbm, ⟨13, _⟩ => ⟨S1024x1, .i32⟩
  | .hbm, ⟨14, _⟩ => ⟨S_, .i32⟩
  | .hbm, ⟨15, _⟩ => ⟨S_, .i32⟩
  | .hbm, ⟨16, _⟩ => ⟨S1024x1, .i32⟩
  | .hbm, ⟨17, _⟩ => ⟨S1024x1, .i32⟩
  | .hbm, ⟨18, _⟩ => ⟨S1024x1, .i32⟩
  | .hbm, ⟨19, _⟩ => ⟨S_, .i32⟩
  | .hbm, ⟨20, _⟩ => ⟨S1024x1, .i32⟩
  | .hbm, ⟨21, _⟩ => ⟨S1024x1, .i1⟩
  | .hbm, ⟨22, _⟩ => ⟨S1024x1, .i32⟩
  | .hbm, ⟨23, _⟩ => ⟨S1024x1, .i32⟩
  | .hbm, ⟨24, _⟩ => ⟨S_, .i32⟩
  | .hbm, ⟨25, _⟩ => ⟨S1024x1, .i32⟩
  | .hbm, ⟨26, _⟩ => ⟨S1024x1, .i1⟩
  | .hbm, ⟨27, _⟩ => ⟨S1024x1, .i1⟩
  | .hbm, ⟨28, _⟩ => ⟨S_, .i32⟩
  | .hbm, ⟨29, _⟩ => ⟨S1024x1, .i32⟩
  | .hbm, ⟨30, _⟩ => ⟨S1024x1, .i32⟩
  | .hbm, ⟨31, _⟩ => ⟨S1024x1, .i32⟩
  | .hbm, ⟨32, _⟩ => ⟨S128, .i32⟩
  | .hbm, ⟨33, _⟩ => ⟨S1x128, .i32⟩
  | .hbm, ⟨34, _⟩ => ⟨S1024x128, .i32⟩
  | .hbm, ⟨35, _⟩ => ⟨S1024x128, .i32⟩
  | .hbm, ⟨36, _⟩ => ⟨S1024x128, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S_, .i32⟩
  | .hbm, ⟨52, _⟩ => ⟨S_, .i1⟩
  | .hbm, ⟨53, _⟩ => ⟨S1024, .i1⟩
  | .hbm, ⟨54, _⟩ => ⟨S1024, .i1⟩
  | .hbm, ⟨55, _⟩ => ⟨S1024, .i1⟩
  | .hbm, ⟨56, _⟩ => ⟨S1024, .i32⟩
  | .hbm, ⟨57, _⟩ => ⟨S1024, .i32⟩
  | .hbm, ⟨58, _⟩ => ⟨S1024, .i32⟩
  | .hbm, ⟨59, _⟩ => ⟨S1024, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S1024x1, .f32⟩
  | .hbm, ⟨65, _⟩ => ⟨S_, .f32⟩
  | .hbm, ⟨66, _⟩ => ⟨S_, .f32⟩
  | .hbm, ⟨67, _⟩ => ⟨S1024x128, .f32⟩
  | .hbm, ⟨68, _⟩ => ⟨S1024x128, .f32⟩
  | .hbm, ⟨69, _⟩ => ⟨S1024x128, .f32⟩
  | .hbm, ⟨70, _⟩ => ⟨S1024x128, .bf16⟩
  | .hbm, ⟨71, _⟩ => ⟨S8192, .i32⟩
  | .hbm, ⟨72, _⟩ => ⟨S1x8192, .i32⟩
  | .hbm, ⟨73, _⟩ => ⟨S_, .i32⟩
  | .hbm, ⟨74, _⟩ => ⟨S_, .i32⟩
  | .hbm, ⟨75, _⟩ => ⟨S1x8192, .i32⟩
  | .hbm, ⟨76, _⟩ => ⟨S1x8192, .i32⟩
  | .hbm, ⟨77, _⟩ => ⟨S1x8192, .i32⟩
  | .hbm, ⟨78, _⟩ => ⟨S_, .i32⟩
  | .hbm, ⟨79, _⟩ => ⟨S1x8192, .i32⟩
  | .hbm, ⟨80, _⟩ => ⟨S1x8192, .i1⟩
  | .hbm, ⟨81, _⟩ => ⟨S1x8192, .i32⟩
  | .hbm, ⟨82, _⟩ => ⟨S1x8192, .i32⟩
  | .hbm, ⟨83, _⟩ => ⟨S_, .i32⟩
  | .hbm, ⟨84, _⟩ => ⟨S1x8192, .i32⟩
  | .hbm, ⟨85, _⟩ => ⟨S1x8192, .i1⟩
  | .hbm, ⟨86, _⟩ => ⟨S1x8192, .i1⟩
  | .hbm, ⟨87, _⟩ => ⟨S_, .i32⟩
  | .hbm, ⟨88, _⟩ => ⟨S1x8192, .i32⟩
  | .hbm, ⟨89, _⟩ => ⟨S1x8192, .i32⟩
  | .hbm, ⟨90, _⟩ => ⟨S1x8192, .i32⟩
  | .hbm, ⟨91, _⟩ => ⟨S64, .i32⟩
  | .hbm, ⟨92, _⟩ => ⟨S64x1, .i32⟩
  | .hbm, ⟨93, _⟩ => ⟨S64x8192, .i32⟩
  | .hbm, ⟨94, _⟩ => ⟨S64x8192, .i32⟩
  | .hbm, ⟨95, _⟩ => ⟨S64x8192, .i1⟩
  | .hbm, ⟨96, _⟩ => ⟨S64x8192, .bf16⟩
  | .hbm, ⟨97, _⟩ => ⟨S2048x8192, .fp8e4m3⟩
  | .hbm, ⟨98, _⟩ => ⟨S2048x64, .f32⟩
  | .hbm, ⟨99, _⟩ => ⟨S2048x1024, .i8⟩
  | .hbm, ⟨100, _⟩ => ⟨S1x2048, .f32⟩
  | .hbm, ⟨101, _⟩ => ⟨S1x2048, .f32⟩
  | .hbm, ⟨102, _⟩ => ⟨S2048x8192, .bf16⟩
  | .local _ .vmem, ⟨0, _⟩ => ⟨S128x8192, .bf16⟩
  | .local _ .vmem, ⟨1, _⟩ => ⟨S128x8192, .bf16⟩
  | .local _ .vmem, ⟨2, _⟩ => ⟨S128x8192, .bf16⟩
  | .local _ .vmem, ⟨3, _⟩ => ⟨S128x8192, .bf16⟩
  | .local _ .vmem, ⟨4, _⟩ => ⟨S128x8192, .i32⟩
  | .local _ .vmem, ⟨5, _⟩ => ⟨S128x8192, .i32⟩
  | .local _ .vmem, ⟨6, _⟩ => ⟨S1x8192, .f32⟩
  | .local _ .vmem, ⟨7, _⟩ => ⟨S1x8192, .f32⟩
  | .local _ .vmem, ⟨8, _⟩ => ⟨S1x8192, .f32⟩
  | .local _ .vmem, ⟨9, _⟩ => ⟨S1024x128, .bf16⟩
  | .local _ .vmem, ⟨10, _⟩ => ⟨S64x8192, .bf16⟩
  | .local _ .vmem, ⟨11, _⟩ => ⟨S128x8192, .fp8e4m3⟩
  | .local _ .vmem, ⟨12, _⟩ => ⟨S128x8192, .fp8e4m3⟩
  | .local _ .vmem, ⟨13, _⟩ => ⟨S128x64, .f32⟩
  | .local _ .vmem, ⟨14, _⟩ => ⟨S128x64, .f32⟩
  | .local _ .vmem, ⟨15, _⟩ => ⟨S128x1024, .i8⟩
  | .local _ .vmem, ⟨16, _⟩ => ⟨S128x1024, .i8⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S128x8192, .bf16⟩
  | .local _ .vmem, ⟨22, _⟩ => ⟨S128x8192, .bf16⟩
  | .local _ .vmem, ⟨23, _⟩ => ⟨S128x8192, .f32⟩
  | .local _ .vmem, ⟨24, _⟩ => ⟨S128x8192, .bf16⟩
  | .local _ .vmem, ⟨25, _⟩ => ⟨S128x128, .f32⟩
  | .local _ .vmem, ⟨26, _⟩ => ⟨S128x64, .f32⟩
  | _, _ => ⟨S1x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v14 : Ref sig .tc := ⟨.hbm, 58, rfl⟩
abbrev main_v15 : Ref sig .tc := ⟨.hbm, 59, rfl⟩
abbrev main_cst : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst_1 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_c_2 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_c : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_0 : Ref sig .tc := ⟨.hbm, 87, rfl⟩
abbrev main_call3_v12 : Ref sig .tc := ⟨.hbm, 88, rfl⟩
abbrev main_call3_v13 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31_0 : Ref sig .tc := ⟨.hbm, 97, rfl⟩
abbrev main_v31_1 : Ref sig .tc := ⟨.hbm, 98, rfl⟩
abbrev main_v31_2 : Ref sig .tc := ⟨.hbm, 99, rfl⟩
abbrev main_v31_3 : Ref sig .tc := ⟨.hbm, 100, rfl⟩
abbrev main_v31_4 : Ref sig .tc := ⟨.hbm, 101, rfl⟩
abbrev main_v31_5 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  v832
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v835 : Index := Scalar.indexCast v833
  let c0_476 : Index := 0#32
  ![v835.toNat, 0]
def k0_off2 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v874 : Index := Scalar.indexCast v833
  let c128_488 : Index := 128#32
  ![v874.toNat, 128]
def k0_off3 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v913 : Index := Scalar.indexCast v833
  let c256_501 : Index := 256#32
  ![v913.toNat, 256]
def k0_off4 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v952 : Index := Scalar.indexCast v833
  let c384_514 : Index := 384#32
  ![v952.toNat, 384]
def k0_off5 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v991 : Index := Scalar.indexCast v833
  let c512_527 : Index := 512#32
  ![v991.toNat, 512]
def k0_off6 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1030 : Index := Scalar.indexCast v833
  let c640_540 : Index := 640#32
  ![v1030.toNat, 640]
def k0_off7 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1069 : Index := Scalar.indexCast v833
  let c768_553 : Index := 768#32
  ![v1069.toNat, 768]
def k0_off8 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1108 : Index := Scalar.indexCast v833
  let c896_566 : Index := 896#32
  ![v1108.toNat, 896]
def k0_off9 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1147 : Index := Scalar.indexCast v833
  let c1024_579 : Index := 1024#32
  ![v1147.toNat, 1024]
def k0_off10 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1186 : Index := Scalar.indexCast v833
  let c1152_592 : Index := 1152#32
  ![v1186.toNat, 1152]
def k0_off11 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1225 : Index := Scalar.indexCast v833
  let c1280_605 : Index := 1280#32
  ![v1225.toNat, 1280]
def k0_off12 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1264 : Index := Scalar.indexCast v833
  let c1408_618 : Index := 1408#32
  ![v1264.toNat, 1408]
def k0_off13 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1303 : Index := Scalar.indexCast v833
  let c1536_631 : Index := 1536#32
  ![v1303.toNat, 1536]
def k0_off14 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1342 : Index := Scalar.indexCast v833
  let c1664_644 : Index := 1664#32
  ![v1342.toNat, 1664]
def k0_off15 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1381 : Index := Scalar.indexCast v833
  let c1792_657 : Index := 1792#32
  ![v1381.toNat, 1792]
def k0_off16 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1420 : Index := Scalar.indexCast v833
  let c1920_670 : Index := 1920#32
  ![v1420.toNat, 1920]
def k0_off17 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1459 : Index := Scalar.indexCast v833
  let c2048_683 : Index := 2048#32
  ![v1459.toNat, 2048]
def k0_off18 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1498 : Index := Scalar.indexCast v833
  let c2176_696 : Index := 2176#32
  ![v1498.toNat, 2176]
def k0_off19 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1537 : Index := Scalar.indexCast v833
  let c2304_709 : Index := 2304#32
  ![v1537.toNat, 2304]
def k0_off20 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1576 : Index := Scalar.indexCast v833
  let c2432_722 : Index := 2432#32
  ![v1576.toNat, 2432]
def k0_off21 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1615 : Index := Scalar.indexCast v833
  let c2560_735 : Index := 2560#32
  ![v1615.toNat, 2560]
def k0_off22 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1654 : Index := Scalar.indexCast v833
  let c2688_748 : Index := 2688#32
  ![v1654.toNat, 2688]
def k0_off23 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1693 : Index := Scalar.indexCast v833
  let c2816_761 : Index := 2816#32
  ![v1693.toNat, 2816]
def k0_off24 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1732 : Index := Scalar.indexCast v833
  let c2944_774 : Index := 2944#32
  ![v1732.toNat, 2944]
def k0_off25 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1771 : Index := Scalar.indexCast v833
  let c3072_787 : Index := 3072#32
  ![v1771.toNat, 3072]
def k0_off26 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1810 : Index := Scalar.indexCast v833
  let c3200_800 : Index := 3200#32
  ![v1810.toNat, 3200]
def k0_off27 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1849 : Index := Scalar.indexCast v833
  let c3328_813 : Index := 3328#32
  ![v1849.toNat, 3328]
def k0_off28 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1888 : Index := Scalar.indexCast v833
  let c3456_826 : Index := 3456#32
  ![v1888.toNat, 3456]
def k0_off29 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1927 : Index := Scalar.indexCast v833
  let c3584_839 : Index := 3584#32
  ![v1927.toNat, 3584]
def k0_off30 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v1966 : Index := Scalar.indexCast v833
  let c3712_852 : Index := 3712#32
  ![v1966.toNat, 3712]
def k0_off31 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2005 : Index := Scalar.indexCast v833
  let c3840_865 : Index := 3840#32
  ![v2005.toNat, 3840]
def k0_off32 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2044 : Index := Scalar.indexCast v833
  let c3968_878 : Index := 3968#32
  ![v2044.toNat, 3968]
def k0_off33 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2083 : Index := Scalar.indexCast v833
  let c4096_891 : Index := 4096#32
  ![v2083.toNat, 4096]
def k0_off34 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2122 : Index := Scalar.indexCast v833
  let c4224_904 : Index := 4224#32
  ![v2122.toNat, 4224]
def k0_off35 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2161 : Index := Scalar.indexCast v833
  let c4352_917 : Index := 4352#32
  ![v2161.toNat, 4352]
def k0_off36 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2200 : Index := Scalar.indexCast v833
  let c4480_930 : Index := 4480#32
  ![v2200.toNat, 4480]
def k0_off37 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2239 : Index := Scalar.indexCast v833
  let c4608_943 : Index := 4608#32
  ![v2239.toNat, 4608]
def k0_off38 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2278 : Index := Scalar.indexCast v833
  let c4736_956 : Index := 4736#32
  ![v2278.toNat, 4736]
def k0_off39 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2317 : Index := Scalar.indexCast v833
  let c4864_969 : Index := 4864#32
  ![v2317.toNat, 4864]
def k0_off40 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2356 : Index := Scalar.indexCast v833
  let c4992_982 : Index := 4992#32
  ![v2356.toNat, 4992]
def k0_off41 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2395 : Index := Scalar.indexCast v833
  let c5120_995 : Index := 5120#32
  ![v2395.toNat, 5120]
def k0_off42 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2434 : Index := Scalar.indexCast v833
  let c5248_1008 : Index := 5248#32
  ![v2434.toNat, 5248]
def k0_off43 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2473 : Index := Scalar.indexCast v833
  let c5376_1021 : Index := 5376#32
  ![v2473.toNat, 5376]
def k0_off44 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2512 : Index := Scalar.indexCast v833
  let c5504_1034 : Index := 5504#32
  ![v2512.toNat, 5504]
def k0_off45 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2551 : Index := Scalar.indexCast v833
  let c5632_1047 : Index := 5632#32
  ![v2551.toNat, 5632]
def k0_off46 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2590 : Index := Scalar.indexCast v833
  let c5760_1060 : Index := 5760#32
  ![v2590.toNat, 5760]
def k0_off47 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2629 : Index := Scalar.indexCast v833
  let c5888_1073 : Index := 5888#32
  ![v2629.toNat, 5888]
def k0_off48 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2668 : Index := Scalar.indexCast v833
  let c6016_1086 : Index := 6016#32
  ![v2668.toNat, 6016]
def k0_off49 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2707 : Index := Scalar.indexCast v833
  let c6144_1099 : Index := 6144#32
  ![v2707.toNat, 6144]
def k0_off50 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2746 : Index := Scalar.indexCast v833
  let c6272_1112 : Index := 6272#32
  ![v2746.toNat, 6272]
def k0_off51 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2785 : Index := Scalar.indexCast v833
  let c6400_1125 : Index := 6400#32
  ![v2785.toNat, 6400]
def k0_off52 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2824 : Index := Scalar.indexCast v833
  let c6528_1138 : Index := 6528#32
  ![v2824.toNat, 6528]
def k0_off53 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2863 : Index := Scalar.indexCast v833
  let c6656_1151 : Index := 6656#32
  ![v2863.toNat, 6656]
def k0_off54 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2902 : Index := Scalar.indexCast v833
  let c6784_1164 : Index := 6784#32
  ![v2902.toNat, 6784]
def k0_off55 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2941 : Index := Scalar.indexCast v833
  let c6912_1177 : Index := 6912#32
  ![v2941.toNat, 6912]
def k0_off56 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v2980 : Index := Scalar.indexCast v833
  let c7040_1190 : Index := 7040#32
  ![v2980.toNat, 7040]
def k0_off57 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v3019 : Index := Scalar.indexCast v833
  let c7168_1203 : Index := 7168#32
  ![v3019.toNat, 7168]
def k0_off58 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v3058 : Index := Scalar.indexCast v833
  let c7296_1216 : Index := 7296#32
  ![v3058.toNat, 7296]
def k0_off59 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v3097 : Index := Scalar.indexCast v833
  let c7424_1229 : Index := 7424#32
  ![v3097.toNat, 7424]
def k0_off60 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v3136 : Index := Scalar.indexCast v833
  let c7552_1242 : Index := 7552#32
  ![v3136.toNat, 7552]
def k0_off61 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v3175 : Index := Scalar.indexCast v833
  let c7680_1255 : Index := 7680#32
  ![v3175.toNat, 7680]
def k0_off62 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v3214 : Index := Scalar.indexCast v833
  let c7808_1268 : Index := 7808#32
  ![v3214.toNat, 7808]
def k0_off63 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v3253 : Index := Scalar.indexCast v833
  let c7936_1281 : Index := 7936#32
  ![v3253.toNat, 7936]
def k0_off64 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v3292 : Index := Scalar.indexCast v833
  let c8064_1294 : Index := 8064#32
  ![v3292.toNat, 8064]
def k0_off65 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32_474 : BitVec 32 := 32#32
  let v832 : BitVec 32 := Scalar.muli arg19 c32_i32_474
  let v833 : BitVec 32 := v832
  let v3331 : Index := Scalar.indexCast v833
  let c0_1307 : Index := 0#32
  ![v3331.toNat, 0]
@[reducible] def k0_t2_loop : Scf.Loop 32 :=
  let c0_i32_7 : BitVec 32 := 0#32
  let c4_i32_8 : BitVec 32 := 4#32
  let v16 : BitVec 32 := Scalar.addi c0_i32_7 c4_i32_8
  let c1_i32_9 : BitVec 32 := 1#32
  ⟨c0_i32_7, v16, c1_i32_9⟩
def k0_mult2 (k0_t2 : Fin k0_t2_loop.trips) : BitVec 32 :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  v832
def k0_off66 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v834 : Index := Scalar.indexCast v833
  let c0_475 : Index := 0#32
  ![v834.toNat, 0]
def k0_off67 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v837 : Index := Scalar.indexCast v833
  let c0_477 : Index := 0#32
  ![v837.toNat, 0]
def k0_off68 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v846 : Index := Scalar.indexCast v833
  let c128_479 : Index := 128#32
  ![v846.toNat, 128]
def k0_off69 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v855 : Index := Scalar.indexCast v833
  let c256_481 : Index := 256#32
  ![v855.toNat, 256]
def k0_off70 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v864 : Index := Scalar.indexCast v833
  let c384_483 : Index := 384#32
  ![v864.toNat, 384]
def k0_off71 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v873 : Index := Scalar.indexCast v833
  let c512_485 : Index := 512#32
  ![v873.toNat, 512]
def k0_off72 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v882 : Index := Scalar.indexCast v833
  let c640_487 : Index := 640#32
  ![v882.toNat, 640]
def k0_off73 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v891 : Index := Scalar.indexCast v833
  let c768_489 : Index := 768#32
  ![v891.toNat, 768]
def k0_off74 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v900 : Index := Scalar.indexCast v833
  let c896_491 : Index := 896#32
  ![v900.toNat, 896]
def k0_off75 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v909 : Index := Scalar.indexCast v833
  let c1024_493 : Index := 1024#32
  ![v909.toNat, 1024]
def k0_off76 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v918 : Index := Scalar.indexCast v833
  let c1152_495 : Index := 1152#32
  ![v918.toNat, 1152]
def k0_off77 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v927 : Index := Scalar.indexCast v833
  let c1280_497 : Index := 1280#32
  ![v927.toNat, 1280]
def k0_off78 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v936 : Index := Scalar.indexCast v833
  let c1408_499 : Index := 1408#32
  ![v936.toNat, 1408]
def k0_off79 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v945 : Index := Scalar.indexCast v833
  let c1536_501 : Index := 1536#32
  ![v945.toNat, 1536]
def k0_off80 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v954 : Index := Scalar.indexCast v833
  let c1664_503 : Index := 1664#32
  ![v954.toNat, 1664]
def k0_off81 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v963 : Index := Scalar.indexCast v833
  let c1792_505 : Index := 1792#32
  ![v963.toNat, 1792]
def k0_off82 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v972 : Index := Scalar.indexCast v833
  let c1920_507 : Index := 1920#32
  ![v972.toNat, 1920]
def k0_off83 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v981 : Index := Scalar.indexCast v833
  let c2048_509 : Index := 2048#32
  ![v981.toNat, 2048]
def k0_off84 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v990 : Index := Scalar.indexCast v833
  let c2176_511 : Index := 2176#32
  ![v990.toNat, 2176]
def k0_off85 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v999 : Index := Scalar.indexCast v833
  let c2304_513 : Index := 2304#32
  ![v999.toNat, 2304]
def k0_off86 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1008 : Index := Scalar.indexCast v833
  let c2432_515 : Index := 2432#32
  ![v1008.toNat, 2432]
def k0_off87 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1017 : Index := Scalar.indexCast v833
  let c2560_517 : Index := 2560#32
  ![v1017.toNat, 2560]
def k0_off88 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1026 : Index := Scalar.indexCast v833
  let c2688_519 : Index := 2688#32
  ![v1026.toNat, 2688]
def k0_off89 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1035 : Index := Scalar.indexCast v833
  let c2816_521 : Index := 2816#32
  ![v1035.toNat, 2816]
def k0_off90 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1044 : Index := Scalar.indexCast v833
  let c2944_523 : Index := 2944#32
  ![v1044.toNat, 2944]
def k0_off91 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1053 : Index := Scalar.indexCast v833
  let c3072_525 : Index := 3072#32
  ![v1053.toNat, 3072]
def k0_off92 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1062 : Index := Scalar.indexCast v833
  let c3200_527 : Index := 3200#32
  ![v1062.toNat, 3200]
def k0_off93 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1071 : Index := Scalar.indexCast v833
  let c3328_529 : Index := 3328#32
  ![v1071.toNat, 3328]
def k0_off94 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1080 : Index := Scalar.indexCast v833
  let c3456_531 : Index := 3456#32
  ![v1080.toNat, 3456]
def k0_off95 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1089 : Index := Scalar.indexCast v833
  let c3584_533 : Index := 3584#32
  ![v1089.toNat, 3584]
def k0_off96 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1098 : Index := Scalar.indexCast v833
  let c3712_535 : Index := 3712#32
  ![v1098.toNat, 3712]
def k0_off97 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1107 : Index := Scalar.indexCast v833
  let c3840_537 : Index := 3840#32
  ![v1107.toNat, 3840]
def k0_off98 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1116 : Index := Scalar.indexCast v833
  let c3968_539 : Index := 3968#32
  ![v1116.toNat, 3968]
def k0_off99 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1125 : Index := Scalar.indexCast v833
  let c4096_541 : Index := 4096#32
  ![v1125.toNat, 4096]
def k0_off100 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1134 : Index := Scalar.indexCast v833
  let c4224_543 : Index := 4224#32
  ![v1134.toNat, 4224]
def k0_off101 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1143 : Index := Scalar.indexCast v833
  let c4352_545 : Index := 4352#32
  ![v1143.toNat, 4352]
def k0_off102 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1152 : Index := Scalar.indexCast v833
  let c4480_547 : Index := 4480#32
  ![v1152.toNat, 4480]
def k0_off103 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1161 : Index := Scalar.indexCast v833
  let c4608_549 : Index := 4608#32
  ![v1161.toNat, 4608]
def k0_off104 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1170 : Index := Scalar.indexCast v833
  let c4736_551 : Index := 4736#32
  ![v1170.toNat, 4736]
def k0_off105 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1179 : Index := Scalar.indexCast v833
  let c4864_553 : Index := 4864#32
  ![v1179.toNat, 4864]
def k0_off106 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1188 : Index := Scalar.indexCast v833
  let c4992_555 : Index := 4992#32
  ![v1188.toNat, 4992]
def k0_off107 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1197 : Index := Scalar.indexCast v833
  let c5120_557 : Index := 5120#32
  ![v1197.toNat, 5120]
def k0_off108 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1206 : Index := Scalar.indexCast v833
  let c5248_559 : Index := 5248#32
  ![v1206.toNat, 5248]
def k0_off109 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1215 : Index := Scalar.indexCast v833
  let c5376_561 : Index := 5376#32
  ![v1215.toNat, 5376]
def k0_off110 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1224 : Index := Scalar.indexCast v833
  let c5504_563 : Index := 5504#32
  ![v1224.toNat, 5504]
def k0_off111 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1233 : Index := Scalar.indexCast v833
  let c5632_565 : Index := 5632#32
  ![v1233.toNat, 5632]
def k0_off112 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1242 : Index := Scalar.indexCast v833
  let c5760_567 : Index := 5760#32
  ![v1242.toNat, 5760]
def k0_off113 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1251 : Index := Scalar.indexCast v833
  let c5888_569 : Index := 5888#32
  ![v1251.toNat, 5888]
def k0_off114 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1260 : Index := Scalar.indexCast v833
  let c6016_571 : Index := 6016#32
  ![v1260.toNat, 6016]
def k0_off115 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1269 : Index := Scalar.indexCast v833
  let c6144_573 : Index := 6144#32
  ![v1269.toNat, 6144]
def k0_off116 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1278 : Index := Scalar.indexCast v833
  let c6272_575 : Index := 6272#32
  ![v1278.toNat, 6272]
def k0_off117 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1287 : Index := Scalar.indexCast v833
  let c6400_577 : Index := 6400#32
  ![v1287.toNat, 6400]
def k0_off118 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1296 : Index := Scalar.indexCast v833
  let c6528_579 : Index := 6528#32
  ![v1296.toNat, 6528]
def k0_off119 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1305 : Index := Scalar.indexCast v833
  let c6656_581 : Index := 6656#32
  ![v1305.toNat, 6656]
def k0_off120 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1314 : Index := Scalar.indexCast v833
  let c6784_583 : Index := 6784#32
  ![v1314.toNat, 6784]
def k0_off121 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1323 : Index := Scalar.indexCast v833
  let c6912_585 : Index := 6912#32
  ![v1323.toNat, 6912]
def k0_off122 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1332 : Index := Scalar.indexCast v833
  let c7040_587 : Index := 7040#32
  ![v1332.toNat, 7040]
def k0_off123 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1341 : Index := Scalar.indexCast v833
  let c7168_589 : Index := 7168#32
  ![v1341.toNat, 7168]
def k0_off124 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1350 : Index := Scalar.indexCast v833
  let c7296_591 : Index := 7296#32
  ![v1350.toNat, 7296]
def k0_off125 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1359 : Index := Scalar.indexCast v833
  let c7424_593 : Index := 7424#32
  ![v1359.toNat, 7424]
def k0_off126 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1368 : Index := Scalar.indexCast v833
  let c7552_595 : Index := 7552#32
  ![v1368.toNat, 7552]
def k0_off127 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1377 : Index := Scalar.indexCast v833
  let c7680_597 : Index := 7680#32
  ![v1377.toNat, 7680]
def k0_off128 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1386 : Index := Scalar.indexCast v833
  let c7808_599 : Index := 7808#32
  ![v1386.toNat, 7808]
def k0_off129 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1395 : Index := Scalar.indexCast v833
  let c7936_601 : Index := 7936#32
  ![v1395.toNat, 7936]
def k0_off130 (k0_t2 : Fin k0_t2_loop.trips) : Fin 2 → Nat :=
  let c0_i32_7 : BitVec 32 := 0#32
  let c1_i32_9 : BitVec 32 := 1#32
  let arg19 : BitVec 32 := Scf.iv c0_i32_7 c1_i32_9 k0_t2
  let c32_i32_474 : BitVec 32 := 32#32
  let v832 : BitVec 32 := Scalar.muli arg19 c32_i32_474
  let v833 : BitVec 32 := v832
  let v1404 : Index := Scalar.indexCast v833
  let c8064_603 : Index := 8064#32
  ![v1404.toNat, 8064]
@[reducible] def k0_t3_loop : Scf.Loop 32 :=
  let c0_i32_20 : BitVec 32 := 0#32
  let c4_i32_21 : BitVec 32 := 4#32
  let v35 : BitVec 32 := Scalar.addi c0_i32_20 c4_i32_21
  let c1_i32_22 : BitVec 32 := 1#32
  ⟨c0_i32_20, v35, c1_i32_22⟩
def k0_mult3 (k0_t3 : Fin k0_t3_loop.trips) : BitVec 32 :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  v832
def k0_off131 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v834 : Index := Scalar.indexCast v833
  let c0_475 : Index := 0#32
  ![v834.toNat, 0]
def k0_off132 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v836 : Index := Scalar.indexCast v833
  let c0_476 : Index := 0#32
  ![v836.toNat, 0]
def k0_off133 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v854 : Index := Scalar.indexCast v833
  let c0_483 : Index := 0#32
  ![v854.toNat, 0]
def k0_off134 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v858 : Index := Scalar.indexCast v833
  let c128_484 : Index := 128#32
  ![v858.toNat, 128]
def k0_off135 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v876 : Index := Scalar.indexCast v833
  let c1 : Index := 1#32
  ![v876.toNat, 1]
def k0_off136 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v880 : Index := Scalar.indexCast v833
  let c256_491 : Index := 256#32
  ![v880.toNat, 256]
def k0_off137 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v898 : Index := Scalar.indexCast v833
  let c2 : Index := 2#32
  ![v898.toNat, 2]
def k0_off138 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v902 : Index := Scalar.indexCast v833
  let c384_498 : Index := 384#32
  ![v902.toNat, 384]
def k0_off139 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v920 : Index := Scalar.indexCast v833
  let c3 : Index := 3#32
  ![v920.toNat, 3]
def k0_off140 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v924 : Index := Scalar.indexCast v833
  let c512_505 : Index := 512#32
  ![v924.toNat, 512]
def k0_off141 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v942 : Index := Scalar.indexCast v833
  let c4 : Index := 4#32
  ![v942.toNat, 4]
def k0_off142 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v946 : Index := Scalar.indexCast v833
  let c640_512 : Index := 640#32
  ![v946.toNat, 640]
def k0_off143 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v964 : Index := Scalar.indexCast v833
  let c5 : Index := 5#32
  ![v964.toNat, 5]
def k0_off144 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v968 : Index := Scalar.indexCast v833
  let c768_519 : Index := 768#32
  ![v968.toNat, 768]
def k0_off145 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v986 : Index := Scalar.indexCast v833
  let c6 : Index := 6#32
  ![v986.toNat, 6]
def k0_off146 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v990 : Index := Scalar.indexCast v833
  let c896_526 : Index := 896#32
  ![v990.toNat, 896]
def k0_off147 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1008 : Index := Scalar.indexCast v833
  let c7 : Index := 7#32
  ![v1008.toNat, 7]
def k0_off148 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1012 : Index := Scalar.indexCast v833
  let c1024_533 : Index := 1024#32
  ![v1012.toNat, 1024]
def k0_off149 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1030 : Index := Scalar.indexCast v833
  let c8 : Index := 8#32
  ![v1030.toNat, 8]
def k0_off150 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1034 : Index := Scalar.indexCast v833
  let c1152_540 : Index := 1152#32
  ![v1034.toNat, 1152]
def k0_off151 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1052 : Index := Scalar.indexCast v833
  let c9 : Index := 9#32
  ![v1052.toNat, 9]
def k0_off152 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1056 : Index := Scalar.indexCast v833
  let c1280_547 : Index := 1280#32
  ![v1056.toNat, 1280]
def k0_off153 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1074 : Index := Scalar.indexCast v833
  let c10 : Index := 10#32
  ![v1074.toNat, 10]
def k0_off154 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1078 : Index := Scalar.indexCast v833
  let c1408_554 : Index := 1408#32
  ![v1078.toNat, 1408]
def k0_off155 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1096 : Index := Scalar.indexCast v833
  let c11 : Index := 11#32
  ![v1096.toNat, 11]
def k0_off156 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1100 : Index := Scalar.indexCast v833
  let c1536_561 : Index := 1536#32
  ![v1100.toNat, 1536]
def k0_off157 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1118 : Index := Scalar.indexCast v833
  let c12 : Index := 12#32
  ![v1118.toNat, 12]
def k0_off158 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1122 : Index := Scalar.indexCast v833
  let c1664_568 : Index := 1664#32
  ![v1122.toNat, 1664]
def k0_off159 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1140 : Index := Scalar.indexCast v833
  let c13 : Index := 13#32
  ![v1140.toNat, 13]
def k0_off160 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1144 : Index := Scalar.indexCast v833
  let c1792_575 : Index := 1792#32
  ![v1144.toNat, 1792]
def k0_off161 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1162 : Index := Scalar.indexCast v833
  let c14 : Index := 14#32
  ![v1162.toNat, 14]
def k0_off162 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1166 : Index := Scalar.indexCast v833
  let c1920_582 : Index := 1920#32
  ![v1166.toNat, 1920]
def k0_off163 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1184 : Index := Scalar.indexCast v833
  let c15 : Index := 15#32
  ![v1184.toNat, 15]
def k0_off164 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1188 : Index := Scalar.indexCast v833
  let c2048_589 : Index := 2048#32
  ![v1188.toNat, 2048]
def k0_off165 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1206 : Index := Scalar.indexCast v833
  let c16 : Index := 16#32
  ![v1206.toNat, 16]
def k0_off166 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1210 : Index := Scalar.indexCast v833
  let c2176_596 : Index := 2176#32
  ![v1210.toNat, 2176]
def k0_off167 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1228 : Index := Scalar.indexCast v833
  let c17 : Index := 17#32
  ![v1228.toNat, 17]
def k0_off168 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1232 : Index := Scalar.indexCast v833
  let c2304_603 : Index := 2304#32
  ![v1232.toNat, 2304]
def k0_off169 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1250 : Index := Scalar.indexCast v833
  let c18 : Index := 18#32
  ![v1250.toNat, 18]
def k0_off170 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1254 : Index := Scalar.indexCast v833
  let c2432_610 : Index := 2432#32
  ![v1254.toNat, 2432]
def k0_off171 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1272 : Index := Scalar.indexCast v833
  let c19 : Index := 19#32
  ![v1272.toNat, 19]
def k0_off172 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1276 : Index := Scalar.indexCast v833
  let c2560_617 : Index := 2560#32
  ![v1276.toNat, 2560]
def k0_off173 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1294 : Index := Scalar.indexCast v833
  let c20 : Index := 20#32
  ![v1294.toNat, 20]
def k0_off174 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1298 : Index := Scalar.indexCast v833
  let c2688_624 : Index := 2688#32
  ![v1298.toNat, 2688]
def k0_off175 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1316 : Index := Scalar.indexCast v833
  let c21 : Index := 21#32
  ![v1316.toNat, 21]
def k0_off176 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1320 : Index := Scalar.indexCast v833
  let c2816_631 : Index := 2816#32
  ![v1320.toNat, 2816]
def k0_off177 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1338 : Index := Scalar.indexCast v833
  let c22 : Index := 22#32
  ![v1338.toNat, 22]
def k0_off178 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1342 : Index := Scalar.indexCast v833
  let c2944_638 : Index := 2944#32
  ![v1342.toNat, 2944]
def k0_off179 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1360 : Index := Scalar.indexCast v833
  let c23 : Index := 23#32
  ![v1360.toNat, 23]
def k0_off180 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1364 : Index := Scalar.indexCast v833
  let c3072_645 : Index := 3072#32
  ![v1364.toNat, 3072]
def k0_off181 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1382 : Index := Scalar.indexCast v833
  let c24 : Index := 24#32
  ![v1382.toNat, 24]
def k0_off182 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1386 : Index := Scalar.indexCast v833
  let c3200_652 : Index := 3200#32
  ![v1386.toNat, 3200]
def k0_off183 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1404 : Index := Scalar.indexCast v833
  let c25 : Index := 25#32
  ![v1404.toNat, 25]
def k0_off184 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1408 : Index := Scalar.indexCast v833
  let c3328_659 : Index := 3328#32
  ![v1408.toNat, 3328]
def k0_off185 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1426 : Index := Scalar.indexCast v833
  let c26 : Index := 26#32
  ![v1426.toNat, 26]
def k0_off186 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1430 : Index := Scalar.indexCast v833
  let c3456_666 : Index := 3456#32
  ![v1430.toNat, 3456]
def k0_off187 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1448 : Index := Scalar.indexCast v833
  let c27 : Index := 27#32
  ![v1448.toNat, 27]
def k0_off188 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1452 : Index := Scalar.indexCast v833
  let c3584_673 : Index := 3584#32
  ![v1452.toNat, 3584]
def k0_off189 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1470 : Index := Scalar.indexCast v833
  let c28 : Index := 28#32
  ![v1470.toNat, 28]
def k0_off190 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1474 : Index := Scalar.indexCast v833
  let c3712_680 : Index := 3712#32
  ![v1474.toNat, 3712]
def k0_off191 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1492 : Index := Scalar.indexCast v833
  let c29 : Index := 29#32
  ![v1492.toNat, 29]
def k0_off192 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1496 : Index := Scalar.indexCast v833
  let c3840_687 : Index := 3840#32
  ![v1496.toNat, 3840]
def k0_off193 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1514 : Index := Scalar.indexCast v833
  let c30 : Index := 30#32
  ![v1514.toNat, 30]
def k0_off194 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1518 : Index := Scalar.indexCast v833
  let c3968_694 : Index := 3968#32
  ![v1518.toNat, 3968]
def k0_off195 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1536 : Index := Scalar.indexCast v833
  let c31 : Index := 31#32
  ![v1536.toNat, 31]
def k0_off196 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1540 : Index := Scalar.indexCast v833
  let c4096_701 : Index := 4096#32
  ![v1540.toNat, 4096]
def k0_off197 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1558 : Index := Scalar.indexCast v833
  let c32 : Index := 32#32
  ![v1558.toNat, 32]
def k0_off198 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1562 : Index := Scalar.indexCast v833
  let c4224_708 : Index := 4224#32
  ![v1562.toNat, 4224]
def k0_off199 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1580 : Index := Scalar.indexCast v833
  let c33 : Index := 33#32
  ![v1580.toNat, 33]
def k0_off200 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1584 : Index := Scalar.indexCast v833
  let c4352_715 : Index := 4352#32
  ![v1584.toNat, 4352]
def k0_off201 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1602 : Index := Scalar.indexCast v833
  let c34 : Index := 34#32
  ![v1602.toNat, 34]
def k0_off202 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1606 : Index := Scalar.indexCast v833
  let c4480_722 : Index := 4480#32
  ![v1606.toNat, 4480]
def k0_off203 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1624 : Index := Scalar.indexCast v833
  let c35 : Index := 35#32
  ![v1624.toNat, 35]
def k0_off204 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1628 : Index := Scalar.indexCast v833
  let c4608_729 : Index := 4608#32
  ![v1628.toNat, 4608]
def k0_off205 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1646 : Index := Scalar.indexCast v833
  let c36 : Index := 36#32
  ![v1646.toNat, 36]
def k0_off206 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1650 : Index := Scalar.indexCast v833
  let c4736_736 : Index := 4736#32
  ![v1650.toNat, 4736]
def k0_off207 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1668 : Index := Scalar.indexCast v833
  let c37 : Index := 37#32
  ![v1668.toNat, 37]
def k0_off208 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1672 : Index := Scalar.indexCast v833
  let c4864_743 : Index := 4864#32
  ![v1672.toNat, 4864]
def k0_off209 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1690 : Index := Scalar.indexCast v833
  let c38 : Index := 38#32
  ![v1690.toNat, 38]
def k0_off210 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1694 : Index := Scalar.indexCast v833
  let c4992_750 : Index := 4992#32
  ![v1694.toNat, 4992]
def k0_off211 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1712 : Index := Scalar.indexCast v833
  let c39 : Index := 39#32
  ![v1712.toNat, 39]
def k0_off212 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1716 : Index := Scalar.indexCast v833
  let c5120_757 : Index := 5120#32
  ![v1716.toNat, 5120]
def k0_off213 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1734 : Index := Scalar.indexCast v833
  let c40 : Index := 40#32
  ![v1734.toNat, 40]
def k0_off214 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1738 : Index := Scalar.indexCast v833
  let c5248_764 : Index := 5248#32
  ![v1738.toNat, 5248]
def k0_off215 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1756 : Index := Scalar.indexCast v833
  let c41 : Index := 41#32
  ![v1756.toNat, 41]
def k0_off216 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1760 : Index := Scalar.indexCast v833
  let c5376_771 : Index := 5376#32
  ![v1760.toNat, 5376]
def k0_off217 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1778 : Index := Scalar.indexCast v833
  let c42 : Index := 42#32
  ![v1778.toNat, 42]
def k0_off218 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1782 : Index := Scalar.indexCast v833
  let c5504_778 : Index := 5504#32
  ![v1782.toNat, 5504]
def k0_off219 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1800 : Index := Scalar.indexCast v833
  let c43 : Index := 43#32
  ![v1800.toNat, 43]
def k0_off220 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1804 : Index := Scalar.indexCast v833
  let c5632_785 : Index := 5632#32
  ![v1804.toNat, 5632]
def k0_off221 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1822 : Index := Scalar.indexCast v833
  let c44 : Index := 44#32
  ![v1822.toNat, 44]
def k0_off222 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1826 : Index := Scalar.indexCast v833
  let c5760_792 : Index := 5760#32
  ![v1826.toNat, 5760]
def k0_off223 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1844 : Index := Scalar.indexCast v833
  let c45 : Index := 45#32
  ![v1844.toNat, 45]
def k0_off224 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1848 : Index := Scalar.indexCast v833
  let c5888_799 : Index := 5888#32
  ![v1848.toNat, 5888]
def k0_off225 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1866 : Index := Scalar.indexCast v833
  let c46 : Index := 46#32
  ![v1866.toNat, 46]
def k0_off226 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1870 : Index := Scalar.indexCast v833
  let c6016_806 : Index := 6016#32
  ![v1870.toNat, 6016]
def k0_off227 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1888 : Index := Scalar.indexCast v833
  let c47 : Index := 47#32
  ![v1888.toNat, 47]
def k0_off228 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1892 : Index := Scalar.indexCast v833
  let c6144_813 : Index := 6144#32
  ![v1892.toNat, 6144]
def k0_off229 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1910 : Index := Scalar.indexCast v833
  let c48 : Index := 48#32
  ![v1910.toNat, 48]
def k0_off230 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1914 : Index := Scalar.indexCast v833
  let c6272_820 : Index := 6272#32
  ![v1914.toNat, 6272]
def k0_off231 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1932 : Index := Scalar.indexCast v833
  let c49 : Index := 49#32
  ![v1932.toNat, 49]
def k0_off232 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1936 : Index := Scalar.indexCast v833
  let c6400_827 : Index := 6400#32
  ![v1936.toNat, 6400]
def k0_off233 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1954 : Index := Scalar.indexCast v833
  let c50 : Index := 50#32
  ![v1954.toNat, 50]
def k0_off234 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1958 : Index := Scalar.indexCast v833
  let c6528_834 : Index := 6528#32
  ![v1958.toNat, 6528]
def k0_off235 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1976 : Index := Scalar.indexCast v833
  let c51 : Index := 51#32
  ![v1976.toNat, 51]
def k0_off236 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1980 : Index := Scalar.indexCast v833
  let c6656_841 : Index := 6656#32
  ![v1980.toNat, 6656]
def k0_off237 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v1998 : Index := Scalar.indexCast v833
  let c52 : Index := 52#32
  ![v1998.toNat, 52]
def k0_off238 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2002 : Index := Scalar.indexCast v833
  let c6784_848 : Index := 6784#32
  ![v2002.toNat, 6784]
def k0_off239 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2020 : Index := Scalar.indexCast v833
  let c53 : Index := 53#32
  ![v2020.toNat, 53]
def k0_off240 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2024 : Index := Scalar.indexCast v833
  let c6912_855 : Index := 6912#32
  ![v2024.toNat, 6912]
def k0_off241 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2042 : Index := Scalar.indexCast v833
  let c54 : Index := 54#32
  ![v2042.toNat, 54]
def k0_off242 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2046 : Index := Scalar.indexCast v833
  let c7040_862 : Index := 7040#32
  ![v2046.toNat, 7040]
def k0_off243 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2064 : Index := Scalar.indexCast v833
  let c55 : Index := 55#32
  ![v2064.toNat, 55]
def k0_off244 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2068 : Index := Scalar.indexCast v833
  let c7168_869 : Index := 7168#32
  ![v2068.toNat, 7168]
def k0_off245 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2086 : Index := Scalar.indexCast v833
  let c56 : Index := 56#32
  ![v2086.toNat, 56]
def k0_off246 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2090 : Index := Scalar.indexCast v833
  let c7296_876 : Index := 7296#32
  ![v2090.toNat, 7296]
def k0_off247 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2108 : Index := Scalar.indexCast v833
  let c57 : Index := 57#32
  ![v2108.toNat, 57]
def k0_off248 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2112 : Index := Scalar.indexCast v833
  let c7424_883 : Index := 7424#32
  ![v2112.toNat, 7424]
def k0_off249 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2130 : Index := Scalar.indexCast v833
  let c58 : Index := 58#32
  ![v2130.toNat, 58]
def k0_off250 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2134 : Index := Scalar.indexCast v833
  let c7552_890 : Index := 7552#32
  ![v2134.toNat, 7552]
def k0_off251 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2152 : Index := Scalar.indexCast v833
  let c59 : Index := 59#32
  ![v2152.toNat, 59]
def k0_off252 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2156 : Index := Scalar.indexCast v833
  let c7680_897 : Index := 7680#32
  ![v2156.toNat, 7680]
def k0_off253 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2174 : Index := Scalar.indexCast v833
  let c60 : Index := 60#32
  ![v2174.toNat, 60]
def k0_off254 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2178 : Index := Scalar.indexCast v833
  let c7808_904 : Index := 7808#32
  ![v2178.toNat, 7808]
def k0_off255 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2196 : Index := Scalar.indexCast v833
  let c61 : Index := 61#32
  ![v2196.toNat, 61]
def k0_off256 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2200 : Index := Scalar.indexCast v833
  let c7936_911 : Index := 7936#32
  ![v2200.toNat, 7936]
def k0_off257 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2218 : Index := Scalar.indexCast v833
  let c62 : Index := 62#32
  ![v2218.toNat, 62]
def k0_off258 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2222 : Index := Scalar.indexCast v833
  let c8064_918 : Index := 8064#32
  ![v2222.toNat, 8064]
def k0_off259 (k0_t3 : Fin k0_t3_loop.trips) : Fin 2 → Nat :=
  let c0_i32_20 : BitVec 32 := 0#32
  let c1_i32_22 : BitVec 32 := 1#32
  let arg19 : BitVec 32 := Scf.iv c0_i32_20 c1_i32_22 k0_t3
  let c32_i32_474 : BitVec 32 := 32#32
  let v832 : BitVec 32 := Scalar.muli arg19 c32_i32_474
  let v833 : BitVec 32 := v832
  let v2240 : Index := Scalar.indexCast v833
  let c63 : Index := 63#32
  ![v2240.toNat, 63]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x8192 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S1x2048x8192 : Shape := ⟨3, ![1, 2048, 8192]⟩
abbrev S8192 : Shape := ⟨1, ![8192]⟩
abbrev S_ : Shape := ⟨0, ![]⟩
abbrev S1x1x8192 : Shape := ⟨3, ![1, 1, 8192]⟩
abbrev S1x2048 : Shape := ⟨2, ![1, 2048]⟩
abbrev S1x2048x1 : Shape := ⟨3, ![1, 2048, 1]⟩
abbrev S1x2048x64x128 : Shape := ⟨4, ![1, 2048, 64, 128]⟩
abbrev S1x2048x64 : Shape := ⟨3, ![1, 2048, 64]⟩
abbrev S254 : Shape := ⟨1, ![254]⟩
abbrev S1x2048x64x1 : Shape := ⟨4, ![1, 2048, 64, 1]⟩
abbrev S1x1x1x254 : Shape := ⟨4, ![1, 1, 1, 254]⟩
abbrev S1x2048x64x254 : Shape := ⟨4, ![1, 2048, 64, 254]⟩
abbrev S1x2048x1024x8 : Shape := ⟨4, ![1, 2048, 1024, 8]⟩
abbrev S8 : Shape := ⟨1, ![8]⟩
abbrev S1x1x1x8 : Shape := ⟨4, ![1, 1, 1, 8]⟩
abbrev S1x2048x1024 : Shape := ⟨3, ![1, 2048, 1024]⟩
abbrev S2048x8192 : Shape := ⟨2, ![2048, 8192]⟩
abbrev S2048x64 : Shape := ⟨2, ![2048, 64]⟩
abbrev S2048x1024 : Shape := ⟨2, ![2048, 1024]⟩

abbrev nBuf : Space → Nat
  | .hbm => 122
  | .vmem => 0
  | .smem => 0
  | _ => 0

abbrev bufTy : (tb : Table) → Fin (tcTables nBuf tb) → BufTy
  | .hbm, ⟨0, _⟩ => ⟨S1x2048x8192, .bf16⟩
  | .hbm, ⟨1, _⟩ => ⟨S1x2048x8192, .bf16⟩
  | .hbm, ⟨2, _⟩ => ⟨S8192, .f32⟩
  | .hbm, ⟨3, _⟩ => ⟨S1x2048x8192, .i32⟩
  | .hbm, ⟨4, _⟩ => ⟨S8192, .f32⟩
  | .hbm, ⟨5, _⟩ => ⟨S8192, .f32⟩
  | .hbm, ⟨6, _⟩ => ⟨S_, .i32⟩
  | .hbm, ⟨7, _⟩ => ⟨S1x2048x8192, .i32⟩
  | .hbm, ⟨8, _⟩ => ⟨S1x2048x8192, .i1⟩
  | .hbm, ⟨9, _⟩ => ⟨S1x2048x8192, .f32⟩
  | .hbm, ⟨10, _⟩ => ⟨S1x1x8192, .f32⟩
  | .hbm, ⟨11, _⟩ => ⟨S1x2048x8192, .f32⟩
  | .hbm, ⟨12, _⟩ => ⟨S1x2048x8192, .f32⟩
  | .hbm, ⟨13, _⟩ => ⟨S_, .f32⟩
  | .hbm, ⟨14, _⟩ => ⟨S1x2048x8192, .f32⟩
  | .hbm, ⟨15, _⟩ => ⟨S1x2048x8192, .f32⟩
  | .hbm, ⟨16, _⟩ => ⟨S_, .f32⟩
  | .hbm, ⟨17, _⟩ => ⟨S_, .f32⟩
  | .hbm, ⟨18, _⟩ => ⟨S1x2048x8192, .f32⟩
  | .hbm, ⟨19, _⟩ => ⟨S1x2048x8192, .f32⟩
  | .hbm, ⟨20, _⟩ => ⟨S1x2048x8192, .f32⟩
  | .hbm, ⟨21, _⟩ => ⟨S1x2048x8192, .f32⟩
  | .hbm, ⟨22, _⟩ => ⟨S1x2048x8192, .bf16⟩
  | .hbm, ⟨23, _⟩ => ⟨S1x2048x8192, .f32⟩
  | .hbm, ⟨24, _⟩ => ⟨S_, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048x1, .f32⟩
  | .hbm, ⟨30, _⟩ => ⟨S1x2048x8192, .f32⟩
  | .hbm, ⟨31, _⟩ => ⟨S1x2048x8192, .f32⟩
  | .hbm, ⟨32, _⟩ => ⟨S1x2048x8192, .f32⟩
  | .hbm, ⟨33, _⟩ => ⟨S_, .f32⟩
  | .hbm, ⟨34, _⟩ => ⟨S1x2048, .f32⟩
  | .hbm, ⟨35, _⟩ => ⟨S_, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048x1, .f32⟩
  | .hbm, ⟨43, _⟩ => ⟨S1x2048x8192, .f32⟩
  | .hbm, ⟨44, _⟩ => ⟨S1x2048x8192, .f32⟩
  | .hbm, ⟨45, _⟩ => ⟨S1x1x8192, .f32⟩
  | .hbm, ⟨46, _⟩ => ⟨S1x2048x8192, .f32⟩
  | .hbm, ⟨47, _⟩ => ⟨S1x2048x8192, .f32⟩
  | .hbm, ⟨48, _⟩ => ⟨S1x1x8192, .f32⟩
  | .hbm, ⟨49, _⟩ => ⟨S1x2048x8192, .f32⟩
  | .hbm, ⟨50, _⟩ => ⟨S1x2048x8192, .f32⟩
  | .hbm, ⟨51, _⟩ => ⟨S1x2048x64x128, .f32⟩
  | .hbm, ⟨52, _⟩ => ⟨S1x2048x64x128, .f32⟩
  | .hbm, ⟨53, _⟩ => ⟨S_, .f32⟩
  | .hbm, ⟨54, _⟩ => ⟨S1x2048x64, .f32⟩
  | .hbm, ⟨55, _⟩ => ⟨S_, .f32⟩
  | .hbm, ⟨56, _⟩ => ⟨S1x2048x64, .f32⟩
  | .hbm, ⟨57, _⟩ => ⟨S1x2048x64, .f32⟩
  | .hbm, ⟨58, _⟩ => ⟨S254, .i32⟩
  | .hbm, ⟨59, _⟩ => ⟨S_, .i32⟩
  | .hbm, ⟨60, _⟩ => ⟨S254, .i32⟩
  | .hbm, ⟨61, _⟩ => ⟨S254, .i32⟩
  | .hbm, ⟨62, _⟩ => ⟨S_, .f32⟩
  | .hbm, ⟨63, _⟩ => ⟨S254, .f32⟩
  | .hbm, ⟨64, _⟩ => ⟨S254, .f32⟩
  | .hbm, ⟨65, _⟩ => ⟨S254, .f32⟩
  | .hbm, ⟨66, _⟩ => ⟨S1x2048x64x1, .f32⟩
  | .hbm, ⟨67, _⟩ => ⟨S1x1x1x254, .f32⟩
  | .hbm, ⟨68, _⟩ => ⟨S1x2048x64x254, .f32⟩
  | .hbm, ⟨69, _⟩ => ⟨S1x2048x64x254, .f32⟩
  | .hbm, ⟨70, _⟩ => ⟨S1x2048x64x254, .i1⟩
  | .hbm, ⟨71, _⟩ => ⟨S1x2048x64x254, .i32⟩
  | .hbm, ⟨72, _⟩ => ⟨S_, .i32⟩
  | .hbm, ⟨73, _⟩ => ⟨S1x2048x64, .i32⟩
  | .hbm, ⟨74, _⟩ => ⟨S_, .i32⟩
  | .hbm, ⟨75, _⟩ => ⟨S1x2048x64, .i32⟩
  | .hbm, ⟨76, _⟩ => ⟨S1x2048x64, .i1⟩
  | .hbm, ⟨77, _⟩ => ⟨S_, .f32⟩
  | .hbm, ⟨78, _⟩ => ⟨S1x2048x64, .f32⟩
  | .hbm, ⟨79, _⟩ => ⟨S1x2048x64, .i1⟩
  | .hbm, ⟨80, _⟩ => ⟨S1x2048x64, .i1⟩
  | .hbm, ⟨81, _⟩ => ⟨S_, .i32⟩
  | .hbm, ⟨82, _⟩ => ⟨S1x2048x64, .i32⟩
  | .hbm, ⟨83, _⟩ => ⟨S1x2048x64, .i32⟩
  | .hbm, ⟨84, _⟩ => ⟨S_, .i32⟩
  | .hbm, ⟨85, _⟩ => ⟨S_, .i32⟩
  | .hbm, ⟨86, _⟩ => ⟨S1x2048x64, .i32⟩
  | .hbm, ⟨87, _⟩ => ⟨S1x2048x64, .i32⟩
  | .hbm, ⟨88, _⟩ => ⟨S_, .f32⟩
  | .hbm, ⟨89, _⟩ => ⟨S1x2048x64, .f32⟩
  | .hbm, ⟨90, _⟩ => ⟨S1x2048x64, .f32⟩
  | .hbm, ⟨91, _⟩ => ⟨S1x2048x64, .f32⟩
  | .hbm, ⟨92, _⟩ => ⟨S1x2048x64, .i32⟩
  | .hbm, ⟨93, _⟩ => ⟨S_, .f32⟩
  | .hbm, ⟨94, _⟩ => ⟨S1x2048x64, .f32⟩
  | .hbm, ⟨95, _⟩ => ⟨S1x2048x64, .f32⟩
  | .hbm, ⟨96, _⟩ => ⟨S1x2048x64, .f32⟩
  | .hbm, ⟨97, _⟩ => ⟨S1x2048x64x1, .f32⟩
  | .hbm, ⟨98, _⟩ => ⟨S1x2048x64x128, .f32⟩
  | .hbm, ⟨99, _⟩ => ⟨S1x2048x64x128, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S1x2048x64x128, .f32⟩
  | .hbm, ⟨104, _⟩ => ⟨S1x2048x64x128, .f32⟩
  | .hbm, ⟨105, _⟩ => ⟨S_, .f32⟩
  | .hbm, ⟨106, _⟩ => ⟨S1x2048x64x128, .f32⟩
  | .hbm, ⟨107, _⟩ => ⟨S1x2048x64x128, .f32⟩
  | .hbm, ⟨108, _⟩ => ⟨S1x2048x64x128, .fp8e4m3⟩
  | .hbm, ⟨109, _⟩ => ⟨S1x2048x1024x8, .i1⟩
  | .hbm, ⟨110, _⟩ => ⟨S1x2048x1024x8, .i32⟩
  | .hbm, ⟨111, _⟩ => ⟨S8, .i32⟩
  | .hbm, ⟨112, _⟩ => ⟨S1x1x1x8, .i32⟩
  | .hbm, ⟨113, _⟩ => ⟨S1x2048x1024x8, .i32⟩
  | .hbm, ⟨114, _⟩ => ⟨S1x2048x1024x8, .i32⟩
  | .hbm, ⟨115, _⟩ => ⟨S_, .i32⟩
  | .hbm, ⟨116, _⟩ => ⟨S1x2048x1024, .i32⟩
  | .hbm, ⟨117, _⟩ => ⟨S1x2048x1024, .i8⟩
  | .hbm, ⟨118, _⟩ => ⟨S2048x8192, .fp8e4m3⟩
  | .hbm, ⟨119, _⟩ => ⟨S2048x64, .f32⟩
  | .hbm, ⟨120, _⟩ => ⟨S2048x1024, .i8⟩
  | .hbm, ⟨121, _⟩ => ⟨S2048x8192, .bf16⟩
  | _, _ => ⟨S1x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_call1_v0 : Ref sig .tc := ⟨.hbm, 85, rfl⟩
abbrev main_call1_v1 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_17 : Ref sig .tc := ⟨.hbm, 100, rfl⟩
abbrev main_cst_18 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_19 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]
-- ==== Proof.KernelRuns.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

/-! # The kernel at the machine's floats: the host operations before the region, the windows' blocks, the frame's post -/

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S128x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x8192 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x8192 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x8192 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1024 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x8192 .bf16 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S128x8192 .f32 := Memref.whole cc0_scratch0
abbrev scM0_1 : Memref sig .tc .vmem S128x8192 .bf16 := Memref.whole cc0_scratch1
abbrev scM0_2 : Memref sig .tc .vmem S128x128 .f32 := Memref.whole cc0_scratch2
abbrev scM0_3 : Memref sig .tc .vmem S128x64 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KernelRun.lean ====
module

public import proofs.«01_k».proof.Proof.KernelRuns

@[expose] public section

-- membership in a rectangle of production extents (`View.cover_of_tiled`): the elaborator's structural look
-- recurses once per coordinate of the long axes
set_option maxRecDepth 16384

noncomputable section

/-! # The kernel at the machine's floats: the body's run -/

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1628000 in
/-- The body's triple: on whole staging memrefs — the inputs' at their contents,
    the FORGOTTEN outputs' (8, 9, 10, 11, 12, 13) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole)
    (x0 : Vec F S128x8192 .bf16) (x1 : Vec F S128x8192 .bf16) (x2 : Vec F S128x8192 .i32) (x3 : Vec F S1x8192 .f32) (x4 : Vec F S1x8192 .f32) (x5 : Vec F S1x8192 .f32) (x6 : Vec F S1024x128 .bf16) (x7 : Vec F S64x8192 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__body_eq_skeleton]; unfold cc0__body_skel
    simp only [k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KernelFrame.lean ====
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

/-! # The kernel at the machine's floats: the launch and the frame

The frame names nothing of what the output windows hold, so it holds whatever the floats are. -/

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows that this frame forgets (8, 9, 10, 11, 12, 13): nothing reads what the kernel leaves in them, so nothing
    of it is named (Lib/Pipeline/Dat.lean `Dat.toRForget`). -/
def forgets0 : Fin 14 → Bool := fun w => w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10, 11, 12, 13) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame: the argument arrays end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.Block.lean ====
module

public import proofs.«01_k».proof.Proof.Gen.KernelIdeal.Skeleton
public import Idealize.ShloMosaic.Lib.Pointwise

@[expose] public section

noncomputable section

/-! # What the kernel computes on one block of 128 rows

Plain functions of the block's operands, over the extended reals. -/

namespace Cert.Block

open Idealize.ShloMosaic Cert.KernelIdeal Cert.KernelIdeal.Gen

/-- Column `128 * b + c` of row `r`, as an index of the block (`b` below 64). -/
def col (b : ℕ) (r : Fin 128) (c : Fin 128) : S128x8192.Idx :=
  ix2 r (⟨(128 * b + c.val) % 8192, Nat.mod_lt _ (by decide)⟩ : Fin 8192)

/-- Whether an entry is kept: its random word is at least the threshold. -/
def keptBit (r : S128x8192.Idx → BitVec 32) (y : S128x8192.Idx) : BitVec 1 := IntOp.cmpi .uge (r y) 429496730#32

/-- The residual stream: the input plus the scaled and biased activation where it is kept. -/
def hid (x a : S128x8192.Idx → EReal) (r : S128x8192.Idx → BitVec 32) (b : S1x8192.Idx → EReal) (y : S128x8192.Idx) : EReal :=
  x y + Scalar.select (keptBit r y) ((a y + b (ix2 (0 : Fin 1) (y 1))) * Ideal.ofBits .f32 0x3F8E38E4#32) 0

/-- One where an entry is kept, zero elsewhere. -/
def mask01 (r : S128x8192.Idx → BitVec 32) (y : S128x8192.Idx) : EReal := Scalar.select (keptBit r y) 1 0

/-- Lane sums: entry `(r, c)` adds up the columns `128 * b + c` of row `r` for the first `n` blocks `b`. -/
def laneSum (g : S128x8192.Idx → EReal) (n : ℕ) (r c : Fin 128) : EReal := ∑ b ∈ Finset.range n, g (col b r c)

theorem laneSum_succ (g : S128x8192.Idx → EReal) (n : ℕ) (r c : Fin 128) :
    laneSum g (n + 1) r c = laneSum g n r c + g (col n r c) := Finset.sum_range_succ _ _

/-- The lane sums of a whole block, as an array. -/
def stat (g : S128x8192.Idx → EReal) (z : S128x128.Idx) : EReal := laneSum g 64 (z 0) (z 1)

/-- What one tile of the first loop stores as the residual stream, at an entry. -/
theorem pay4_at (v836 : Vec Ideal S32x128 .i32) (v841 : Vec Ideal S32x128 .bf16) (v844 : Vec Ideal S1x128 .f32)
    (v853 : Vec Ideal S32x128 .bf16) (x : S32x128.Idx) :
    k0_pay4 v836 v841 v844 v853 x
      = v853 x + Scalar.select (IntOp.cmpi .uge (v836 x) 429496730#32) ((v841 x + v844 (ix2 (0 : Fin 1) (x 1))) * Ideal.ofBits .f32 0x3F8E38E4#32) 0 := by
  pointwise [k0_pay4, k0_pay3]

/-- What one tile of the first loop stores as the mask, at an entry. -/
theorem pay8_at (v836 : Vec Ideal S32x128 .i32) (x : S32x128.Idx) :
    k0_pay8 v836 x = Scalar.select (IntOp.cmpi .uge (v836 x) 429496730#32) 1 0 := by
  pointwise [k0_pay8, k0_pay3]

theorem pay5_at (v836 : Vec Ideal S32x128 .i32) (v841 : Vec Ideal S32x128 .bf16) (v844 : Vec Ideal S1x128 .f32)
    (v853 : Vec Ideal S32x128 .bf16) (x : S32x128.Idx) : k0_pay5 v836 v841 v844 v853 x = k0_pay4 v836 v841 v844 v853 x := by
  pointwise [k0_pay5]

theorem pay6_at (v836 : Vec Ideal S32x128 .i32) (v841 : Vec Ideal S32x128 .bf16) (v844 : Vec Ideal S1x128 .f32)
    (v853 : Vec Ideal S32x128 .bf16) (x : S32x128.Idx) : k0_pay6 v836 v841 v844 v853 x = k0_pay4 v836 v841 v844 v853 x := by
  pointwise [k0_pay6, k0_pay5]

/-- `A` holds the lane sums of the band of rows from `32 * k` over the first `n` tiles. -/
def IsAcc (g : S128x8192.Idx → EReal) (k n : ℕ) (A : FVec Ideal S32x128 .f32) : Prop :=
  ∀ x : S32x128.Idx, A x = laneSum g n ⟨(32 * k + (x 0).val) % 128, Nat.mod_lt _ (by decide)⟩ (x 1)

/-- Nothing added up yet. -/
theorem IsAcc.zero (g : S128x8192.Idx → EReal) (k : ℕ) : IsAcc g k 0 (broadcast S32x128 (Scalar.ofBits .f32 0x00000000#32)) := fun x => by
  pointwise []
  exact (Finset.sum_range_zero _).symm

/-- One tile more. -/
theorem IsAcc.step {g : S128x8192.Idx → EReal} {k n : ℕ} (hk : k < 4) (hn : n < 64) {off : Fin 2 → ℕ}
    (inb : ∀ a, off a + S32x128.size a ≤ S128x8192.size a) (hoff : off = ![32 * k, 128 * n]) {A P : FVec Ideal S32x128 .f32}
    (hA : IsAcc g k n A) (hP : ∀ x, P x = g ((Rect.unit (s := S128x8192) off S32x128.size inb).emb x)) :
    IsAcc g k (n + 1) (addf A P) := fun x => by
  subst hoff
  refine (congrArg₂ (· + ·) (hA x) (hP x)).trans (Eq.trans ?_ (laneSum_succ g n _ _).symm)
  refine congrArg (fun y => laneSum g n _ _ + g y) ?_
  obtain ⟨x0, x1, rfl⟩ : ∃ (x0 : Fin 32) (x1 : Fin 128), x = ix2 x0 x1 := ⟨x 0, x 1, eq_ix2 x⟩
  funext a
  have h0 := x0.isLt
  have h1 := x1.isLt
  fin_cases a
  · refine Fin.ext ?_
    show 32 * k + 1 * x0.val = (32 * k + x0.val) % 128
    rw [Nat.mod_eq_of_lt (by omega), one_mul]
  · refine Fin.ext ?_
    show 128 * n + 1 * x1.val = (128 * n + x1.val) % 8192
    rw [Nat.mod_eq_of_lt (by omega), one_mul]

/-- A cast to the same shape changes nothing. -/
theorem IsAcc.cast {g : S128x8192.Idx → EReal} {k n : ℕ} {A : FVec Ideal S32x128 .f32} {h} (hA : IsAcc g k n A) :
    IsAcc g k n (shapeCast S32x128 A h) := fun x => by
  refine Eq.trans ?_ (hA x)
  pointwise []

/-- The finished lane sums are a tile of the block's. -/
theorem IsAcc.tile {g : S128x8192.Idx → EReal} {k : ℕ} (hk : k < 4) {off : Fin 2 → ℕ}
    (inb : ∀ a, off a + S32x128.size a ≤ S128x128.size a) (hoff : off = ![32 * k, 0]) {A : FVec Ideal S32x128 .f32}
    (hA : IsAcc g k 64 A) (x : S32x128.Idx) : A x = stat g ((Rect.unit (s := S128x128) off S32x128.size inb).emb x) := by
  subst hoff
  refine (hA x).trans ?_
  unfold stat
  obtain ⟨x0, x1, rfl⟩ : ∃ (x0 : Fin 32) (x1 : Fin 128), x = ix2 x0 x1 := ⟨x 0, x 1, eq_ix2 x⟩
  have h0 := x0.isLt
  refine congrArg₂ (laneSum g 64) ?_ ?_
  · refine Fin.ext ?_
    show (32 * k + x0.val) % 128 = 32 * k + 1 * x0.val
    rw [Nat.mod_eq_of_lt (by omega), one_mul]
  · refine Fin.ext ?_
    show x1.val = 0 + 1 * x1.val
    omega

end Cert.Block
-- ==== Proof.Tiles.lean ====
module

public import Idealize.ShloMosaic.Lib.Exec
public import Idealize.ShloMosaic.Lib.Writes
public import Idealize.ShloMosaic.Lib.WholeRead

@[expose] public section

noncomputable section

/-! # Bands of rows written tile by tile

One trip of each of the kernel's loops fills 32 rows of an array, tile after tile from the left. This module says what
such a list of tiles leaves in the array. -/

namespace Cert.Bands

open Idealize.ShloMosaic

variable {sig : RefSig} {Val : EltTy → Type} {κ : Kind} {sp : Space} {e : EltTy} {d : Fin 2 → ℕ}

/-- The array whose rows below `32 * k` are `H`'s and whose other rows are `G`'s. -/
def patch {α : Type} (k : ℕ) (H G : (⟨2, d⟩ : Shape).Idx → α) : (⟨2, d⟩ : Shape).Idx → α := fun y =>
  if (y (0 : Fin 2)).val < 32 * k then H y else G y

/-- The contents of a whole array before trip `k`: at the start as they were; later, the rows below `32 * k` are `H`'s. -/
def patchC {m : Memref sig κ sp ⟨2, d⟩ e} (hm : m.IsWhole) (H : (⟨2, d⟩ : Shape).Idx → Val e) (G : m.view.ty.Contents Val) :
    ℕ → m.view.ty.Contents Val
  | 0 => G
  | k + 1 => hm.unread (patch (k + 1) H (m.view.read Val G))

/-- Reading those contents. -/
theorem read_patchC {m : Memref sig κ sp ⟨2, d⟩ e} (hm : m.IsWhole) (H : (⟨2, d⟩ : Shape).Idx → Val e)
    (G : m.view.ty.Contents Val) (k : ℕ) : m.view.read Val (patchC hm H G k) = patch k H (m.view.read Val G) := by
  cases k with
  | zero => funext y; simp [patchC, patch]
  | succ k => exact hm.read_unread _

/-- Once every row is below `32 * k`, the contents are `H`. -/
theorem patchC_all {m : Memref sig κ sp ⟨2, d⟩ e} (hm : m.IsWhole) (H : (⟨2, d⟩ : Shape).Idx → Val e)
    (G : m.view.ty.Contents Val) (k : ℕ) (hk : d 0 ≤ 32 * k) : patchC hm H G k = hm.unread H := by
  refine hm.eq_unread (X := H) ?_
  rw [read_patchC]
  funext y
  exact if_pos (Nat.lt_of_lt_of_le (y (0 : Fin 2)).isLt hk)

/-- `L` is a list of tiles of the band of rows from `32 * k`: each tile's values are `G`'s, and the tiles cover the band's
    first `c` columns. -/
structure Tiled (k : ℕ) (G : (⟨2, d⟩ : Shape).Idx → Val e) (c : ℕ) (L : List (View.Piece Val ⟨2, d⟩ e)) : Prop where
  val : ∀ p ∈ L, ∀ x : p.1.shape.Idx, p.2 x = G (p.1.emb x)
  cov : ∀ y : (⟨2, d⟩ : Shape).Idx, 32 * k ≤ (y (0 : Fin 2)).val → (y (0 : Fin 2)).val < 32 * k + 32 → (y (1 : Fin 2)).val < c →
    ∃ p ∈ L, y ∈ p.1.set
  out : ∀ p ∈ L, ∀ y ∈ p.1.set, 32 * k ≤ (y (0 : Fin 2)).val ∧ (y (0 : Fin 2)).val < 32 * k + 32

/-- No tiles. -/
theorem Tiled.nil (k : ℕ) (G : (⟨2, d⟩ : Shape).Idx → Val e) : Tiled k G 0 [] :=
  ⟨fun _ h => absurd h List.not_mem_nil, fun _ _ _ h => absurd h (Nat.not_lt_zero _), fun _ h => absurd h List.not_mem_nil⟩

/-- One tile more, of width `w` at column `c`. -/
theorem Tiled.cons {k : ℕ} {G : (⟨2, d⟩ : Shape).Idx → Val e} {c w : ℕ} {L : List (View.Piece Val ⟨2, d⟩ e)}
    (off : Fin 2 → ℕ) (inb : ∀ a, off a + (![32, w] : Fin 2 → ℕ) a ≤ d a)
    (v : (Rect.unit (s := ⟨2, d⟩) off ![32, w] inb).shape.Idx → Val e) (hoff : off = ![32 * k, c])
    (hv : ∀ x, v x = G ((Rect.unit (s := ⟨2, d⟩) off ![32, w] inb).emb x)) (hL : Tiled k G c L) :
    Tiled k G (c + w) (⟨Rect.unit (s := ⟨2, d⟩) off ![32, w] inb, v⟩ :: L) where
  val := List.forall_mem_cons.2 ⟨hv, hL.val⟩
  cov y h0 h1 h2 := by
    by_cases hc : (y (1 : Fin 2)).val < c
    · obtain ⟨p, hp, hy⟩ := hL.cov y h0 h1 hc
      exact ⟨p, List.mem_cons_of_mem _ hp, hy⟩
    · refine ⟨_, List.mem_cons_self, ?_⟩
      subst hoff
      rw [Rect.mem_set_unit]
      intro a
      fin_cases a
      · exact ⟨h0, h1⟩
      · exact ⟨Nat.le_of_not_lt hc, h2⟩
  out := List.forall_mem_cons.2 ⟨fun y hy => by
    subst hoff
    rw [Rect.mem_set_unit] at hy
    exact hy 0, hL.out⟩

/-- A full band written over contents that are `H`'s below it leaves `H`'s rows one band further. -/
theorem Tiled.writes {m : Memref sig κ sp ⟨2, d⟩ e} (hm : m.IsWhole) {k : ℕ} {H : (⟨2, d⟩ : Shape).Idx → Val e}
    {L : List (View.Piece Val ⟨2, d⟩ e)} (hL : Tiled k H (d 1) L) (G : m.view.ty.Contents Val) :
    m.view.writes Val (patchC hm H G k) L = patchC hm H G (k + 1) := by
  refine hm.eq_unread (X := patch (k + 1) H (m.view.read Val G)) ?_
  funext y
  by_cases h0 : 32 * k ≤ (y (0 : Fin 2)).val ∧ (y (0 : Fin 2)).val < 32 * k + 32
  · rw [View.read_writes_apply_of_pieces _ _ H L hL.val y (hL.cov y h0.1 h0.2 (y (1 : Fin 2)).isLt)]
    exact (if_pos (by omega)).symm
  · rw [View.read_writes_apply_of_forall_not_mem _ _ _ _ fun p hp hy => h0 (hL.out p hp y hy), read_patchC]
    unfold patch
    by_cases h1 : (y (0 : Fin 2)).val < 32 * k
    · rw [if_pos h1, if_pos (by omega)]
    · rw [if_neg h1, if_neg (by omega)]

end Cert.Bands
-- ==== Proof.Trips.lean ====
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra. -/
local notation "𝕄G" => MT nD τ sig Unit (Elt F) ℕ (UR sig nD τ) ℕ

/-! # One trip of the first and of the third row loop, run once for any trip -/

/-- One trip's resources: what the region reads (arg1, arg2, arg3, arg4) at its contents, what it
   writes (arg14, arg15, arg16, arg17) at any. -/
abbrev Trip_k0_t1 (c : Dev nD) (arg1 : Memref sig .tc .vmem S128x8192 .bf16) (arg2 : Memref sig .tc .vmem S128x8192 .bf16) (arg3 : Memref sig .tc .vmem S128x8192 .i32) (arg4 : Memref sig .tc .vmem S1x8192 .f32) (arg14 : Memref sig .tc .vmem S128x8192 .bf16) (arg15 : Memref sig .tc .vmem S128x8192 .f32) (arg16 : Memref sig .tc .vmem S128x8192 .bf16) (arg17 : Memref sig .tc .vmem S128x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17))

/-- One trip of `k0_t1_loop` at a symbolic `k`, run by `sl_exec` (its rectangles' offsets closed
   forms of `k`, their geometry linear arithmetic): the pieces it writes into arg14, arg15, arg16,
   arg17 are the run's own finds — the witnesses `sl_close` assigns handing the buffers to the
   continuation. `@[irreducible]`: cited, never unfolded. -/
@[irreducible] def trip_k0_t1 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) :
    Σ' (L_arg14 : List (View.Piece (Elt F) S128x8192 .bf16)) (L_arg15 : List (View.Piece (Elt F) S128x8192 .f32)) (L_arg16 : List (View.Piece (Elt F) S128x8192 .bf16)) , { L_arg17 : List (View.Piece (Elt F) S128x128 .f32) // ∀ (E : Set ℕ) (f_arg14 : BufTy.Contents (Elt F) arg14.view.ty) (f_arg15 : BufTy.Contents (Elt F) arg15.view.ty) (f_arg16 : BufTy.Contents (Elt F) arg16.view.ty) (f_arg17 : BufTy.Contents (Elt F) arg17.view.ty),
      Trip_k0_t1 (F := F) c arg1 arg2 arg3 arg4 arg14 arg15 arg16 arg17 X_arg1 X_arg2 X_arg3 X_arg4 f_arg14 f_arg15 f_arg16 f_arg17
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k PUnit.unit)
          (fun _ => Trip_k0_t1 (F := F) c arg1 arg2 arg3 arg4 arg14 arg15 arg16 arg17 X_arg1 X_arg2 X_arg3 X_arg4 (arg14.view.writes (Elt F) f_arg14 L_arg14) (arg15.view.writes (Elt F) f_arg15 L_arg15) (arg16.view.writes (Elt F) f_arg16 L_arg16) (arg17.view.writes (Elt F) f_arg17 L_arg17)) } := by
  have hk : k.val < 4 := Nat.lt_of_lt_of_le k.isLt k0_t1_abs.2.1
  refine ⟨?_, ?_, ?_, ?_, fun E f_arg14 f_arg15 f_arg16 f_arg17 => ?run⟩
  case run =>
    unfold k0_t1_body
    iintro ⟨HR_arg1, HR_arg2, HR_arg3, HR_arg4, HW_arg14, HW_arg15, HW_arg16, HW_arg17⟩
    sl_exec
    sl_step
    sl_close

/-- One trip's resources: what the region reads (arg5, arg6, arg17) at its contents, what it writes
   (arg15, arg18) at any. -/
abbrev Trip_k0_t3 (c : Dev nD) (arg5 : Memref sig .tc .vmem S1x8192 .f32) (arg6 : Memref sig .tc .vmem S1x8192 .f32) (arg17 : Memref sig .tc .vmem S128x128 .f32) (arg15 : Memref sig .tc .vmem S128x8192 .f32) (arg18 : Memref sig .tc .vmem S128x64 .f32) (X_arg5 : BufTy.Contents (Elt F) arg5.view.ty) (X_arg6 : BufTy.Contents (Elt F) arg6.view.ty) (X_arg17 : BufTy.Contents (Elt F) arg17.view.ty) (f_arg15 : BufTy.Contents (Elt F) arg15.view.ty) (f_arg18 : BufTy.Contents (Elt F) arg18.view.ty) : sProp 𝕄G :=
  iprop((arg5.view.loc (c : Thread nD τ) ↦[arg5.view.set]{fullShare} X_arg5) ∗ (arg6.view.loc (c : Thread nD τ) ↦[arg6.view.set]{fullShare} X_arg6) ∗ (arg17.view.loc (c : Thread nD τ) ↦[arg17.view.set]{fullShare} X_arg17) ∗ (arg15.view.loc (c : Thread nD τ) ↦[arg15.view.set]{fullShare} f_arg15) ∗ (arg18.view.loc (c : Thread nD τ) ↦[arg18.view.set]{fullShare} f_arg18))

/-- One trip of `k0_t3_loop` at a symbolic `k`, run by `sl_exec` (its rectangles' offsets closed
   forms of `k`, their geometry linear arithmetic): the pieces it writes into arg15, arg18 are the
   run's own finds — the witnesses `sl_close` assigns handing the buffers to the continuation, as
   functions of the contents the trip finds in the memrefs it writes (the region loads some of them
   back). `@[irreducible]`: cited, never unfolded. -/
@[irreducible] def trip_k0_t3 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (v30 : FVec F S128x1 .f32) (X_arg5 : BufTy.Contents (Elt F) arg5.view.ty) (X_arg6 : BufTy.Contents (Elt F) arg6.view.ty) (X_arg17 : BufTy.Contents (Elt F) arg17.view.ty) (k : Fin k0_t3_loop.trips) :
    Σ' (L_arg15 : (BufTy.Contents (Elt F) arg15.view.ty → BufTy.Contents (Elt F) arg18.view.ty → List (View.Piece (Elt F) S128x8192 .f32))) , { L_arg18 : (BufTy.Contents (Elt F) arg15.view.ty → BufTy.Contents (Elt F) arg18.view.ty → List (View.Piece (Elt F) S128x64 .f32)) // ∀ (E : Set ℕ) (f_arg15 : BufTy.Contents (Elt F) arg15.view.ty) (f_arg18 : BufTy.Contents (Elt F) arg18.view.ty),
      Trip_k0_t3 (F := F) c arg5 arg6 arg17 arg15 arg18 X_arg5 X_arg6 X_arg17 f_arg15 f_arg18
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v30 k PUnit.unit)
          (fun _ => Trip_k0_t3 (F := F) c arg5 arg6 arg17 arg15 arg18 X_arg5 X_arg6 X_arg17 (arg15.view.writes (Elt F) f_arg15 (L_arg15 f_arg15 f_arg18)) (arg18.view.writes (Elt F) f_arg18 (L_arg18 f_arg15 f_arg18))) } := by
  have hk : k.val < 4 := Nat.lt_of_lt_of_le k.isLt k0_t3_abs.2.1
  refine ⟨?_, ?_, fun E f_arg15 f_arg18 => ?run⟩
  case run =>
    unfold k0_t3_body
    iintro ⟨HR_arg5, HR_arg6, HR_arg17, HW_arg15, HW_arg18⟩
    sl_exec
    sl_step
    sl_close

end Cert.KernelIdeal.Gen

end
-- ==== Proof.Tile1.lean ====
module

public import proofs.«01_k».proof.Proof.Block
public import proofs.«01_k».proof.Proof.Tiles
public import proofs.«01_k».proof.Proof.Trips

@[expose] public section

set_option maxRecDepth 8192
set_option maxHeartbeats 4000000

noncomputable section

/-! # Tiles of the first loop -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

section Tiles1

variable {arg1 : Memref sig .tc .vmem S128x8192 .bf16} {arg2 : Memref sig .tc .vmem S128x8192 .bf16}
  {arg3 : Memref sig .tc .vmem S128x8192 .i32} {arg4 : Memref sig .tc .vmem S1x8192 .f32}
  {X_arg1 : BufTy.Contents (Elt Ideal) arg1.view.ty} {X_arg2 : BufTy.Contents (Elt Ideal) arg2.view.ty} {X_arg3 : BufTy.Contents (Elt Ideal) arg3.view.ty} {X_arg4 : BufTy.Contents (Elt Ideal) arg4.view.ty}

/-- The residual stream of the block held in the four operands. -/
abbrev hidC (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) : S128x8192.Idx → EReal :=
  hid (arg1.view.read (Elt Ideal) X_arg1) (arg2.view.read (Elt Ideal) X_arg2) (arg3.view.read (Elt Ideal) X_arg3) (arg4.view.read (Elt Ideal) X_arg4)

/-- A tile of the residual stream. -/
theorem tile_hid (k c : ℕ) (off : Fin 2 → ℕ) (inb : ∀ a, off a + S32x128.size a ≤ S128x8192.size a)
    (inb4 : ∀ a, (![0, c] : Fin 2 → ℕ) a + S1x128.size a ≤ S1x8192.size a) (hoff : off = ![32 * k, c]) (x : S32x128.Idx) :
    k0_pay4 (F := Ideal) (View.readAt (Elt Ideal) arg3.view (Rect.unit (s := S128x8192) off S32x128.size inb).toLoadRect X_arg3)
      (View.readAt (Elt Ideal) arg2.view (Rect.unit (s := S128x8192) off S32x128.size inb).toLoadRect X_arg2)
      (View.readAt (Elt Ideal) arg4.view (Rect.unit (s := S1x8192) ![0, c] S1x128.size inb4).toLoadRect X_arg4)
      (View.readAt (Elt Ideal) arg1.view (Rect.unit (s := S128x8192) off S32x128.size inb).toLoadRect X_arg1) x
      = hidC X_arg1 X_arg2 X_arg3 X_arg4 ((Rect.unit (s := S128x8192) off S32x128.size inb).emb x) := by
  subst hoff
  rw [pay4_at]
  unfold hidC hid keptBit
  have e : (Rect.unit (s := S1x8192) ![0, c] S1x128.size inb4).toLoadRect.idx (ix2 (0 : Fin 1) (x 1))
      = ix2 (0 : Fin 1) ((Rect.unit (s := S128x8192) ![32 * k, c] S32x128.size inb).emb x 1) := by
    funext a; fin_cases a <;> rfl
  exact congrArg (fun j => arg1.view.read (Elt Ideal) X_arg1 ((Rect.unit (s := S128x8192) ![32 * k, c] S32x128.size inb).emb x) + Scalar.select (IntOp.cmpi .uge (arg3.view.read (Elt Ideal) X_arg3 ((Rect.unit (s := S128x8192) ![32 * k, c] S32x128.size inb).emb x)) 429496730#32)
    ((arg2.view.read (Elt Ideal) X_arg2 ((Rect.unit (s := S128x8192) ![32 * k, c] S32x128.size inb).emb x) + arg4.view.read (Elt Ideal) X_arg4 j) * Ideal.ofBits .f32 0x3F8E38E4#32) 0) e

/-- A tile of the mask. -/
theorem tile_mask (k c : ℕ) (off : Fin 2 → ℕ) (inb : ∀ a, off a + S32x128.size a ≤ S128x8192.size a) (x : S32x128.Idx) :
    k0_pay8 (F := Ideal) (View.readAt (Elt Ideal) arg3.view (Rect.unit (s := S128x8192) off S32x128.size inb).toLoadRect X_arg3) x
      = mask01 (arg3.view.read (Elt Ideal) X_arg3) ((Rect.unit (s := S128x8192) off S32x128.size inb).emb x) := by
  rw [pay8_at]; rfl

/-- A tile of the residual stream, as the single-precision scratch holds it. -/
theorem tile_y (k c : ℕ) (off : Fin 2 → ℕ) (inb : ∀ a, off a + S32x128.size a ≤ S128x8192.size a)
    (inb4 : ∀ a, (![0, c] : Fin 2 → ℕ) a + S1x128.size a ≤ S1x8192.size a) (hoff : off = ![32 * k, c]) (x : S32x128.Idx) :
    k0_pay6 (F := Ideal) (View.readAt (Elt Ideal) arg3.view (Rect.unit (s := S128x8192) off S32x128.size inb).toLoadRect X_arg3)
      (View.readAt (Elt Ideal) arg2.view (Rect.unit (s := S128x8192) off S32x128.size inb).toLoadRect X_arg2)
      (View.readAt (Elt Ideal) arg4.view (Rect.unit (s := S1x8192) ![0, c] S1x128.size inb4).toLoadRect X_arg4)
      (View.readAt (Elt Ideal) arg1.view (Rect.unit (s := S128x8192) off S32x128.size inb).toLoadRect X_arg1) x
      = hidC X_arg1 X_arg2 X_arg3 X_arg4 ((Rect.unit (s := S128x8192) off S32x128.size inb).emb x) := by
  rw [pay6_at]; exact tile_hid k c off inb inb4 hoff x

/-- The running lane sum, one tile further. -/
theorem acc_hid (k n : ℕ) (hk : k < 4) (hn : n < 64) (off : Fin 2 → ℕ) (inb : ∀ a, off a + S32x128.size a ≤ S128x8192.size a)
    (inb4 : ∀ a, (![0, 128 * n] : Fin 2 → ℕ) a + S1x128.size a ≤ S1x8192.size a) (hoff : off = ![32 * k, 128 * n])
    {A : FVec Ideal S32x128 .f32} (hA : IsAcc (hidC X_arg1 X_arg2 X_arg3 X_arg4) k n A) :
    IsAcc (hidC X_arg1 X_arg2 X_arg3 X_arg4) k (n + 1) (addf A
    (k0_pay5 (F := Ideal) (View.readAt (Elt Ideal) arg3.view (Rect.unit (s := S128x8192) off S32x128.size inb).toLoadRect X_arg3)
      (View.readAt (Elt Ideal) arg2.view (Rect.unit (s := S128x8192) off S32x128.size inb).toLoadRect X_arg2)
      (View.readAt (Elt Ideal) arg4.view (Rect.unit (s := S1x8192) ![0, 128 * n] S1x128.size inb4).toLoadRect X_arg4)
      (View.readAt (Elt Ideal) arg1.view (Rect.unit (s := S128x8192) off S32x128.size inb).toLoadRect X_arg1))) :=
  IsAcc.step hk hn inb hoff hA fun x => by
    rw [pay5_at]; exact tile_hid k (128 * n) off inb inb4 hoff x

end Tiles1

end Cert.KernelIdeal.Gen
-- ==== Proof.Loop1.lean ====
module

public import proofs.«01_k».proof.Proof.Tile1

@[expose] public section

set_option maxRecDepth 8192
set_option maxHeartbeats 4000000

noncomputable section

/-! # The first loop: the residual stream -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

/-- The tiles of the residual stream that a trip stores. -/
theorem trip1_hid (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (k : Fin k0_t1_loop.trips) :
    Tiled k.val (hidC X_arg1 X_arg2 X_arg3 X_arg4) 8192 (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 k).1 := by
  unfold trip_k0_t1
  dsimp only
  iterate 64 refine Tiled.cons _ _ _ (ClosedOff.eq) (fun x => tile_hid k.val _ _ _ _ ClosedOff.eq x) ?_
  exact Tiled.nil _ _

end Cert.KernelIdeal.Gen
-- ==== Proof.Loop1Y.lean ====
module

public import proofs.«01_k».proof.Proof.Tile1

@[expose] public section

set_option maxRecDepth 8192
set_option maxHeartbeats 4000000

noncomputable section

/-! # The first loop: the residual stream in single precision, and the mask -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

/-- The tiles of the single-precision residual stream that a trip stores. -/
theorem trip1_y (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (k : Fin k0_t1_loop.trips) :
    Tiled k.val (hidC X_arg1 X_arg2 X_arg3 X_arg4) 8192 (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 k).2.1 := by
  unfold trip_k0_t1
  dsimp only
  iterate 64 refine Tiled.cons _ _ _ (ClosedOff.eq) (fun x => tile_y k.val _ _ _ _ ClosedOff.eq x) ?_
  exact Tiled.nil _ _

/-- The tiles of the mask that a trip stores. -/
theorem trip1_mask (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (k : Fin k0_t1_loop.trips) :
    Tiled k.val (mask01 (arg3.view.read (Elt Ideal) X_arg3)) 8192 (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 k).2.2.1 := by
  unfold trip_k0_t1
  dsimp only
  iterate 64 refine Tiled.cons _ _ _ (ClosedOff.eq) (fun x => tile_mask 0 0 _ _ x) ?_
  exact Tiled.nil _ _

end Cert.KernelIdeal.Gen
-- ==== Proof.Loop1Stat.lean ====
module

public import proofs.«01_k».proof.Proof.Tile1

@[expose] public section

set_option maxRecDepth 8192
set_option maxHeartbeats 4000000

noncomputable section

/-! # The first loop: the lane sums -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

/-- The lane sums that a trip stores. -/
theorem trip1_stat (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (k : Fin k0_t1_loop.trips) :
    Tiled k.val (stat (hidC X_arg1 X_arg2 X_arg3 X_arg4)) 128 (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 k).2.2.2.1 := by
  unfold trip_k0_t1
  dsimp only
  have hk : k.val < 4 := Nat.lt_of_lt_of_le k.isLt k0_t1_abs.2.1
  refine Tiled.cons (c := 0) (w := 128) _ _ _ (by exact ClosedOff.eq) (fun x => ?_) (Tiled.nil _ _)
  refine IsAcc.tile hk _ ?hoff ?acc x
  case hoff => exact ClosedOff.eq
  refine IsAcc.cast ?_
  iterate 64 refine acc_hid k.val _ hk (by decide) _ _ _ ClosedOff.eq ?_
  exact IsAcc.zero _ _

end Cert.KernelIdeal.Gen
-- ==== Proof.Tile2.lean ====
module

public import proofs.«01_k».proof.Proof.Block
public import proofs.«01_k».proof.Proof.Tiles
public import proofs.«01_k».proof.Proof.Trips

@[expose] public section

set_option maxRecDepth 8192
set_option maxHeartbeats 4000000

noncomputable section

/-! # Tiles of the second and third loops -/

namespace Cert.Bands

open Idealize.ShloMosaic

variable {Val : EltTy → Type} {e : EltTy} {d : Fin 2 → ℕ}

/-- Tiles of one array are tiles of any array that agrees with it on the band. -/
theorem Tiled.congr {k : ℕ} {G G' : (⟨2, d⟩ : Shape).Idx → Val e} {c : ℕ} {L : List (View.Piece Val ⟨2, d⟩ e)}
    (hL : Tiled k G c L)
    (h : ∀ y : (⟨2, d⟩ : Shape).Idx, 32 * k ≤ (y (0 : Fin 2)).val → (y (0 : Fin 2)).val < 32 * k + 32 → G y = G' y) :
    Tiled k G' c L where
  val p hp x := by
    rw [hL.val p hp x]
    obtain ⟨h0, h1⟩ := hL.out p hp _ (p.1.map_emb_univ ▸ Finset.mem_map_of_mem _ (Finset.mem_univ x))
    exact h _ h0 h1
  cov := hL.cov
  out := hL.out

end Cert.Bands

namespace Cert.Block

open Idealize.ShloMosaic Cert.KernelIdeal Cert.KernelIdeal.Gen

/-- Row `y 0` of a per-row array that is repeated along the lanes, at the lane of column `y 1`. -/
def lane (y : S128x8192.Idx) : S128x128.Idx :=
  ix2 (show Fin 128 from y 0) (⟨(y 1).val % 128, Nat.mod_lt _ (by decide)⟩ : Fin 128)

/-- The centred array. -/
def cen (g : S128x8192.Idx → EReal) (m : S128x128.Idx → EReal) (y : S128x8192.Idx) : EReal := g y - m (lane y)

/-- The squares of an array. -/
def sq (g : S128x8192.Idx → EReal) (y : S128x8192.Idx) : EReal := g y * g y

/-- The normalised array, scaled and shifted by column. -/
def lnorm (g : S128x8192.Idx → EReal) (m : S128x128.Idx → EReal) (ga be : S1x8192.Idx → EReal) (y : S128x8192.Idx) : EReal :=
  g y * m (lane y) * ga (ix2 (0 : Fin 1) (y 1)) + be (ix2 (0 : Fin 1) (y 1))

/-- The largest magnitude in block `z 1` of row `z 0`. -/
def amax (g : S128x8192.Idx → EReal) (z : S128x64.Idx) : EReal :=
  Finset.univ.fold max (Ideal.ofBits .f32 0xFF800000#32)
    fun c : Fin 128 => FloatOps.absf (F := Ideal) (φ := .f32) (g (col (z 1).val (z 0) c))

/-- The lane of an entry of a tile. -/
theorem lane_emb {k c : ℕ} (hc : c % 128 = 0) (inb : ∀ a, (![32 * k, c] : Fin 2 → ℕ) a + S32x128.size a ≤ S128x8192.size a)
    (inb' : ∀ a, (![32 * k, 0] : Fin 2 → ℕ) a + S32x128.size a ≤ S128x128.size a) (x : S32x128.Idx) :
    lane ((Rect.unit (s := S128x8192) ![32 * k, c] S32x128.size inb).emb x)
      = (Rect.unit (s := S128x128) ![32 * k, 0] S32x128.size inb').emb x := by
  obtain ⟨x0, x1, rfl⟩ : ∃ (x0 : Fin 32) (x1 : Fin 128), x = ix2 x0 x1 := ⟨x 0, x 1, eq_ix2 x⟩
  have h1 := x1.isLt
  funext a
  fin_cases a
  · rfl
  · refine Fin.ext ?_
    show (c + 1 * x1.val) % 128 = 0 + 1 * x1.val
    omega

/-- A centred tile. -/
theorem cen_tile {k c : ℕ} (hc : c % 128 = 0) {off off' : Fin 2 → ℕ} (inb : ∀ a, off a + S32x128.size a ≤ S128x8192.size a)
    (inb' : ∀ a, off' a + S32x128.size a ≤ S128x128.size a) (hoff : off = ![32 * k, c]) (hoff' : off' = ![32 * k, 0])
    (g : S128x8192.Idx → EReal) (m : S128x128.Idx → EReal) (x : S32x128.Idx) :
    subf (F := Ideal) (φ := .f32) (s := S32x128) (fun x => g ((Rect.unit (s := S128x8192) off S32x128.size inb).emb x))
      (fun x => m ((Rect.unit (s := S128x128) off' S32x128.size inb').emb x)) x
      = cen g m ((Rect.unit (s := S128x8192) off S32x128.size inb).emb x) := by
  subst hoff hoff'
  exact congrArg (fun j => g _ - m j) (lane_emb hc inb inb' x).symm

/-- A scaled and shifted tile. -/
theorem lnorm_tile {k c : ℕ} (hc : c % 128 = 0) {off off' : Fin 2 → ℕ} (inb : ∀ a, off a + S32x128.size a ≤ S128x8192.size a)
    (inb' : ∀ a, off' a + S32x128.size a ≤ S128x128.size a)
    (inb4 : ∀ a, (![0, c] : Fin 2 → ℕ) a + S1x128.size a ≤ S1x8192.size a) (hoff : off = ![32 * k, c]) (hoff' : off' = ![32 * k, 0])
    (g : S128x8192.Idx → EReal) (m : S128x128.Idx → EReal) (ga be : S1x8192.Idx → EReal) (x : S32x128.Idx) :
    k0_pay555 (F := Ideal) (fun x => m ((Rect.unit (s := S128x128) off' S32x128.size inb').emb x))
      (fun x => g ((Rect.unit (s := S128x8192) off S32x128.size inb).emb x))
      (fun x => ga ((Rect.unit (s := S1x8192) ![0, c] S1x128.size inb4).emb x))
      (fun x => be ((Rect.unit (s := S1x8192) ![0, c] S1x128.size inb4).emb x)) x
      = lnorm g m ga be ((Rect.unit (s := S128x8192) off S32x128.size inb).emb x) := by
  subst hoff hoff'
  have e : (Rect.unit (s := S1x8192) ![0, c] S1x128.size inb4).emb (ix2 (0 : Fin 1) (x 1))
      = ix2 (0 : Fin 1) ((Rect.unit (s := S128x8192) ![32 * k, c] S32x128.size inb).emb x 1) := by
    funext a; fin_cases a <;> rfl
  pointwise [k0_pay555, lnorm]
  rw [lane_emb hc inb inb' x]
  exact congrArg (fun j => g _ * m _ * ga j + be j) e

/-- A column of block maxima. -/
theorem amax_tile {k b c : ℕ} (hk : k < 4) (hb : b < 64) (hc : c = 128 * b) {off off' : Fin 2 → ℕ} (inb : ∀ a, off a + S32x128.size a ≤ S128x8192.size a)
    (inb' : ∀ a, off' a + S32x1.size a ≤ S128x64.size a) (hoff : off = ![32 * k, c]) (hoff' : off' = ![32 * k, b])
    (g : S128x8192.Idx → EReal) (Y : FVec Ideal S32x128 .f32)
    (hY : ∀ x, Y x = g ((Rect.unit (s := S128x8192) off S32x128.size inb).emb x)) (x : S32x1.Idx) :
    k0_pay560 (F := Ideal) Y x = amax g ((Rect.unit (s := S128x64) off' S32x1.size inb').emb x) := by
  subst hoff hoff' hc
  pointwise [k0_pay560]
  unfold amax
  refine congrArg (fun f => Finset.univ.fold max (Ideal.ofBits .f32 0xFF800000#32) f) (funext fun c : Fin 128 => ?_)
  rw [hY]
  refine congrArg (fun y => FloatOps.absf (F := Ideal) (φ := .f32) (g y)) ?_
  obtain ⟨x0, x1, rfl⟩ : ∃ (x0 : Fin 32) (x1 : Fin 1), x = ix2 x0 x1 := ⟨x 0, x 1, eq_ix2 x⟩
  have h0 := x0.isLt
  have h1 := x1.isLt
  have hc := c.isLt
  funext a
  fin_cases a
  · rfl
  · refine Fin.ext ?_
    show 128 * b + 1 * c.val = (128 * (b + 1 * x1.val) + c.val) % 8192
    rw [Nat.mod_eq_of_lt (by omega)]
    omega

end Cert.Block

namespace Cert.KernelIdeal.Gen

open Idealize.ShloMosaic Cert.Bands Cert.Block

section Tiles2

variable {arg15 : Memref sig .tc .vmem S128x8192 .f32} {arg17 : Memref sig .tc .vmem S128x128 .f32}
  {arg5 arg6 : Memref sig .tc .vmem S1x8192 .f32}
  {f15 : BufTy.Contents (Elt Ideal) arg15.view.ty} {f17 : BufTy.Contents (Elt Ideal) arg17.view.ty}
  {f5 : BufTy.Contents (Elt Ideal) arg5.view.ty} {f6 : BufTy.Contents (Elt Ideal) arg6.view.ty}

/-- The centred array, from what the two scratch arrays hold. -/
abbrev cenC (f15 : BufTy.Contents (Elt Ideal) arg15.view.ty) (f17 : BufTy.Contents (Elt Ideal) arg17.view.ty) : S128x8192.Idx → EReal :=
  cen (arg15.view.read (Elt Ideal) f15) (arg17.view.read (Elt Ideal) f17)

/-- The normalised array, from what the scratch arrays and the two operands hold. -/
abbrev lnormC (f15 : BufTy.Contents (Elt Ideal) arg15.view.ty) (f17 : BufTy.Contents (Elt Ideal) arg17.view.ty)
    (f5 : BufTy.Contents (Elt Ideal) arg5.view.ty) (f6 : BufTy.Contents (Elt Ideal) arg6.view.ty) : S128x8192.Idx → EReal :=
  lnorm (arg15.view.read (Elt Ideal) f15) (arg17.view.read (Elt Ideal) f17) (arg5.view.read (Elt Ideal) f5) (arg6.view.read (Elt Ideal) f6)

/-- A tile of the centred array, as stored. -/
theorem tile_cen (k c : ℕ) (hc : c % 128 = 0) (off off' : Fin 2 → ℕ) (inb : ∀ a, off a + S32x128.size a ≤ S128x8192.size a)
    (inb' : ∀ a, off' a + S32x128.size a ≤ S128x128.size a) (hoff : off = ![32 * k, c]) (hoff' : off' = ![32 * k, 0]) (x : S32x128.Idx) :
    k0_pay415 (F := Ideal) (View.readAt (Elt Ideal) arg17.view (Rect.unit (s := S128x128) off' S32x128.size inb').toLoadRect f17)
      (View.readAt (Elt Ideal) arg15.view (Rect.unit (s := S128x8192) off S32x128.size inb).toLoadRect f15) x
      = cenC f15 f17 ((Rect.unit (s := S128x8192) off S32x128.size inb).emb x) := by
  refine Eq.trans ?_ (cen_tile hc inb inb' hoff hoff' (arg15.view.read (Elt Ideal) f15) (arg17.view.read (Elt Ideal) f17) x)
  pointwise [k0_pay415, k0_pay414]
  rfl

/-- The running sum of squares, one tile further. -/
theorem acc_sq (k n c : ℕ) (hk : k < 4) (hn : n < 64) (hc : c = 128 * n) (off off' : Fin 2 → ℕ)
    (inb : ∀ a, off a + S32x128.size a ≤ S128x8192.size a)
    (inb' : ∀ a, off' a + S32x128.size a ≤ S128x128.size a) (hoff : off = ![32 * k, c]) (hoff' : off' = ![32 * k, 0])
    {A : FVec Ideal S32x128 .f32} (hA : IsAcc (sq (cenC f15 f17)) k n A) :
    IsAcc (sq (cenC f15 f17)) k (n + 1) (addf A (mulf
      (k0_pay414 (F := Ideal) (View.readAt (Elt Ideal) arg17.view (Rect.unit (s := S128x128) off' S32x128.size inb').toLoadRect f17)
        (View.readAt (Elt Ideal) arg15.view (Rect.unit (s := S128x8192) off S32x128.size inb).toLoadRect f15))
      (k0_pay414 (F := Ideal) (View.readAt (Elt Ideal) arg17.view (Rect.unit (s := S128x128) off' S32x128.size inb').toLoadRect f17)
        (View.readAt (Elt Ideal) arg15.view (Rect.unit (s := S128x8192) off S32x128.size inb).toLoadRect f15)))) := by
  subst hc
  refine IsAcc.step hk hn inb hoff hA fun x => ?_
  exact congrArg (fun a : EReal => a * a)
    (cen_tile (by omega) inb inb' hoff hoff' (arg15.view.read (Elt Ideal) f15) (arg17.view.read (Elt Ideal) f17) x)

/-- A tile of the normalised array, before it is stored. -/
theorem tile_ln0 (k c : ℕ) (hc : c % 128 = 0) (off off' : Fin 2 → ℕ) (inb : ∀ a, off a + S32x128.size a ≤ S128x8192.size a)
    (inb' : ∀ a, off' a + S32x128.size a ≤ S128x128.size a)
    (inb4 : ∀ a, (![0, c] : Fin 2 → ℕ) a + S1x128.size a ≤ S1x8192.size a) (hoff : off = ![32 * k, c]) (hoff' : off' = ![32 * k, 0]) (x : S32x128.Idx) :
    k0_pay555 (F := Ideal) (View.readAt (Elt Ideal) arg17.view (Rect.unit (s := S128x128) off' S32x128.size inb').toLoadRect f17)
      (View.readAt (Elt Ideal) arg15.view (Rect.unit (s := S128x8192) off S32x128.size inb).toLoadRect f15)
      (View.readAt (Elt Ideal) arg5.view (Rect.unit (s := S1x8192) ![0, c] S1x128.size inb4).toLoadRect f5)
      (View.readAt (Elt Ideal) arg6.view (Rect.unit (s := S1x8192) ![0, c] S1x128.size inb4).toLoadRect f6) x
      = lnormC f15 f17 f5 f6 ((Rect.unit (s := S128x8192) off S32x128.size inb).emb x) :=
  lnorm_tile hc inb inb' inb4 hoff hoff' (arg15.view.read (Elt Ideal) f15) (arg17.view.read (Elt Ideal) f17)
    (arg5.view.read (Elt Ideal) f5) (arg6.view.read (Elt Ideal) f6) x

/-- A tile of the normalised array, as stored. -/
theorem tile_ln (k c : ℕ) (hc : c % 128 = 0) (off off' : Fin 2 → ℕ) (inb : ∀ a, off a + S32x128.size a ≤ S128x8192.size a)
    (inb' : ∀ a, off' a + S32x128.size a ≤ S128x128.size a)
    (inb4 : ∀ a, (![0, c] : Fin 2 → ℕ) a + S1x128.size a ≤ S1x8192.size a) (hoff : off = ![32 * k, c]) (hoff' : off' = ![32 * k, 0]) (x : S32x128.Idx) :
    k0_pay556 (F := Ideal) (View.readAt (Elt Ideal) arg17.view (Rect.unit (s := S128x128) off' S32x128.size inb').toLoadRect f17)
      (View.readAt (Elt Ideal) arg15.view (Rect.unit (s := S128x8192) off S32x128.size inb).toLoadRect f15)
      (View.readAt (Elt Ideal) arg5.view (Rect.unit (s := S1x8192) ![0, c] S1x128.size inb4).toLoadRect f5)
      (View.readAt (Elt Ideal) arg6.view (Rect.unit (s := S1x8192) ![0, c] S1x128.size inb4).toLoadRect f6) x
      = lnormC f15 f17 f5 f6 ((Rect.unit (s := S128x8192) off S32x128.size inb).emb x) := by
  refine Eq.trans ?_ (tile_ln0 k c hc off off' inb inb' inb4 hoff hoff' x)
  pointwise [k0_pay556]

/-- A column of block maxima, as stored. -/
theorem tile_amax (k b c : ℕ) (hk : k < 4) (hb : b < 64) (hc : c = 128 * b) (off off' offz : Fin 2 → ℕ)
    (inb : ∀ a, off a + S32x128.size a ≤ S128x8192.size a)
    (inb' : ∀ a, off' a + S32x128.size a ≤ S128x128.size a)
    (inb4 : ∀ a, (![0, c] : Fin 2 → ℕ) a + S1x128.size a ≤ S1x8192.size a)
    (inbz : ∀ a, offz a + S32x1.size a ≤ S128x64.size a) (hoff : off = ![32 * k, c]) (hoff' : off' = ![32 * k, 0])
    (hoffz : offz = ![32 * k, b]) (x : S32x1.Idx) :
    k0_pay560 (F := Ideal) (k0_pay555 (F := Ideal) (View.readAt (Elt Ideal) arg17.view (Rect.unit (s := S128x128) off' S32x128.size inb').toLoadRect f17)
      (View.readAt (Elt Ideal) arg15.view (Rect.unit (s := S128x8192) off S32x128.size inb).toLoadRect f15)
      (View.readAt (Elt Ideal) arg5.view (Rect.unit (s := S1x8192) ![0, c] S1x128.size inb4).toLoadRect f5)
      (View.readAt (Elt Ideal) arg6.view (Rect.unit (s := S1x8192) ![0, c] S1x128.size inb4).toLoadRect f6)) x
      = amax (lnormC f15 f17 f5 f6) ((Rect.unit (s := S128x64) offz S32x1.size inbz).emb x) :=
  amax_tile hk hb hc inb inbz hoff hoffz _ _ (tile_ln0 k c (by omega) off off' inb inb' inb4 hoff hoff') x

end Tiles2

end Cert.KernelIdeal.Gen
-- ==== Proof.Loop2.lean ====
module

public import proofs.«01_k».proof.Proof.Tile2

@[expose] public section
set_option maxRecDepth 8192
set_option maxHeartbeats 4000000

noncomputable section

/-! # The second loop: centred tiles -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

/-- The centred tiles that a trip stores. -/
theorem trip2_cen (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (k : Fin k0_t2_loop.trips) (f15 : BufTy.Contents (Elt Ideal) arg15.view.ty) (f17 : BufTy.Contents (Elt Ideal) arg17.view.ty) :
    Tiled k.val (cenC f15 f17) 8192 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k).1 f15 f17) := by
  unfold trip_k0_t2
  dsimp only
  iterate 64 refine Tiled.cons _ _ _ (ClosedOff.eq) (fun x => tile_cen k.val _ (by decide) _ _ _ _ ClosedOff.eq ClosedOff.eq x) ?_
  exact Tiled.nil _ _

end Cert.KernelIdeal.Gen
-- ==== Proof.Loop2Stat.lean ====
module

public import proofs.«01_k».proof.Proof.Tile2

@[expose] public section
set_option maxRecDepth 8192
set_option maxHeartbeats 4000000

noncomputable section

/-! # The second loop: sums of squares -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

/-- The sums of squares that a trip stores. -/
theorem trip2_stat (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (k : Fin k0_t2_loop.trips) (f15 : BufTy.Contents (Elt Ideal) arg15.view.ty) (f17 : BufTy.Contents (Elt Ideal) arg17.view.ty) :
    Tiled k.val (stat (sq (cenC f15 f17))) 128 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k).2.1 f15 f17) := by
  unfold trip_k0_t2
  dsimp only
  have hk : k.val < 4 := Nat.lt_of_lt_of_le k.isLt k0_t2_abs.2.1
  refine Tiled.cons (c := 0) (w := 128) _ _ _ (by exact ClosedOff.eq) (fun x => ?_) (Tiled.nil _ _)
  refine IsAcc.tile hk _ ?hoff ?acc x
  case hoff => exact ClosedOff.eq
  refine IsAcc.cast ?_
  iterate 64 refine acc_sq k.val _ _ hk (by decide) (by decide) _ _ _ _ ClosedOff.eq ClosedOff.eq ?_
  exact IsAcc.zero _ _

end Cert.KernelIdeal.Gen
-- ==== Proof.Loop3.lean ====
module

public import proofs.«01_k».proof.Proof.Tile2

@[expose] public section
set_option maxRecDepth 8192
set_option maxHeartbeats 4000000

noncomputable section

/-! # The third loop: normalised tiles -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

/-- The normalised tiles that a trip stores. -/
theorem trip3_ln (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (v30 : FVec Ideal S128x1 .f32) (X_arg5 : BufTy.Contents (Elt Ideal) arg5.view.ty) (X_arg6 : BufTy.Contents (Elt Ideal) arg6.view.ty) (X_arg17 : BufTy.Contents (Elt Ideal) arg17.view.ty) (k : Fin k0_t3_loop.trips) (f15 : BufTy.Contents (Elt Ideal) arg15.view.ty) (f18 : BufTy.Contents (Elt Ideal) arg18.view.ty) :
    Tiled k.val (lnormC f15 X_arg17 X_arg5 X_arg6) 8192 ((trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v30 X_arg5 X_arg6 X_arg17 k).1 f15 f18) := by
  unfold trip_k0_t3
  dsimp only
  iterate 64 refine Tiled.cons _ _ _ (ClosedOff.eq) (fun x => tile_ln k.val _ (by decide) _ _ _ _ _ ClosedOff.eq ClosedOff.eq x) ?_
  exact Tiled.nil _ _

end Cert.KernelIdeal.Gen
-- ==== Proof.Loop3Max.lean ====
module

public import proofs.«01_k».proof.Proof.Tile2

@[expose] public section
set_option maxRecDepth 8192
set_option maxHeartbeats 4000000

noncomputable section

/-! # The third loop: block maxima -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

/-- The columns of block maxima that a trip stores. -/
theorem trip3_amax (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (v30 : FVec Ideal S128x1 .f32) (X_arg5 : BufTy.Contents (Elt Ideal) arg5.view.ty) (X_arg6 : BufTy.Contents (Elt Ideal) arg6.view.ty) (X_arg17 : BufTy.Contents (Elt Ideal) arg17.view.ty) (k : Fin k0_t3_loop.trips) (f15 : BufTy.Contents (Elt Ideal) arg15.view.ty) (f18 : BufTy.Contents (Elt Ideal) arg18.view.ty) :
    Tiled k.val (amax (lnormC f15 X_arg17 X_arg5 X_arg6)) 64 ((trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v30 X_arg5 X_arg6 X_arg17 k).2.1 f15 f18) := by
  unfold trip_k0_t3
  dsimp only
  have hk : k.val < 4 := Nat.lt_of_lt_of_le k.isLt k0_t3_abs.2.1
  iterate 64 refine Tiled.cons _ _ _ (ClosedOff.eq) (fun x => tile_amax k.val _ _ hk (by decide) (by decide) _ _ _ _ _ _ _ ClosedOff.eq ClosedOff.eq ClosedOff.eq x) ?_
  exact Tiled.nil _ _

end Cert.KernelIdeal.Gen
-- ==== Proof.Bands.lean ====
module

public import proofs.«01_k».proof.Proof.Tile2

@[expose] public section
set_option maxRecDepth 8192
set_option maxHeartbeats 4000000

noncomputable section

/-! # Rows that a loop has not yet reached
-/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

section Bands

variable {arg15 : Memref sig .tc .vmem S128x8192 .f32} (harg15 : arg15.IsWhole) {arg17 : Memref sig .tc .vmem S128x128 .f32} (harg17 : arg17.IsWhole)
  {arg5 arg6 : Memref sig .tc .vmem S1x8192 .f32}

/-- The rows not yet reached are centred as at the start. -/
theorem cen_band (H15 : S128x8192.Idx → EReal) (G15 : BufTy.Contents (Elt Ideal) arg15.view.ty) (H17 : S128x128.Idx → EReal)
    (G17 : BufTy.Contents (Elt Ideal) arg17.view.ty) (k : ℕ) (y : S128x8192.Idx) (h : 32 * k ≤ (y (0 : Fin 2)).val) :
    cenC (patchC harg15 H15 G15 k) (patchC harg17 H17 G17 k) y = cenC G15 G17 y := by
  unfold cenC cen
  rw [read_patchC, read_patchC]
  unfold patch
  rw [if_neg (by omega), if_neg (by show ¬ (y (0 : Fin 2)).val < 32 * k; omega)]

/-- The sums of squares of the rows not yet reached are those of the start. -/
theorem stat_sq_band (H15 : S128x8192.Idx → EReal) (G15 : BufTy.Contents (Elt Ideal) arg15.view.ty) (H17 : S128x128.Idx → EReal)
    (G17 : BufTy.Contents (Elt Ideal) arg17.view.ty) (k : ℕ) (y : S128x128.Idx) (h : 32 * k ≤ (y (0 : Fin 2)).val) :
    stat (sq (cenC (patchC harg15 H15 G15 k) (patchC harg17 H17 G17 k))) y = stat (sq (cenC G15 G17)) y := by
  unfold stat laneSum
  refine Finset.sum_congr rfl fun b _ => ?_
  exact congrArg (fun a : EReal => a * a) (cen_band harg15 harg17 H15 G15 H17 G17 k (col b (y 0) (y 1)) h)

/-- The rows not yet reached are normalised as at the start. -/
theorem lnorm_band (H15 : S128x8192.Idx → EReal) (G15 : BufTy.Contents (Elt Ideal) arg15.view.ty)
    (f17 : BufTy.Contents (Elt Ideal) arg17.view.ty) (f5 : BufTy.Contents (Elt Ideal) arg5.view.ty) (f6 : BufTy.Contents (Elt Ideal) arg6.view.ty)
    (k : ℕ) (y : S128x8192.Idx) (h : 32 * k ≤ (y (0 : Fin 2)).val) :
    lnormC (patchC harg15 H15 G15 k) f17 f5 f6 y = lnormC G15 f17 f5 f6 y := by
  unfold lnormC lnorm
  rw [read_patchC]
  unfold patch
  rw [if_neg (by omega)]

/-- The block maxima of the rows not yet reached are those of the start. -/
theorem amax_band (H15 : S128x8192.Idx → EReal) (G15 : BufTy.Contents (Elt Ideal) arg15.view.ty)
    (f17 : BufTy.Contents (Elt Ideal) arg17.view.ty) (f5 : BufTy.Contents (Elt Ideal) arg5.view.ty) (f6 : BufTy.Contents (Elt Ideal) arg6.view.ty)
    (k : ℕ) (y : S128x64.Idx) (h : 32 * k ≤ (y (0 : Fin 2)).val) :
    amax (lnormC (patchC harg15 H15 G15 k) f17 f5 f6) y = amax (lnormC G15 f17 f5 f6) y := by
  unfold amax
  refine congrArg (fun f => Finset.univ.fold max (Ideal.ofBits .f32 0xFF800000#32) f) (funext fun c : Fin 128 => ?_)
  rw [lnorm_band harg15 H15 G15 f17 f5 f6 k (col (y 1).val (y 0) c) h]

end Bands

end Cert.KernelIdeal.Gen
-- ==== Proof.LoopInv.lean ====
module

public import proofs.«01_k».proof.Proof.Loop1
public import proofs.«01_k».proof.Proof.Loop1Y
public import proofs.«01_k».proof.Proof.Loop1Stat
public import proofs.«01_k».proof.Proof.Loop2
public import proofs.«01_k».proof.Proof.Loop2Stat
public import proofs.«01_k».proof.Proof.Loop3
public import proofs.«01_k».proof.Proof.Loop3Max
public import proofs.«01_k».proof.Proof.Bands

@[expose] public section
set_option maxRecDepth 8192
set_option maxHeartbeats 4000000

noncomputable section

/-! # The three loops by their invariants

Before trip `k` each array that the loop writes holds the final values in its first `32 * k` rows and what it held
at the start in the others. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

/-- Before trip `k` of the first loop. -/
abbrev bandInv1 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (G_arg14 : BufTy.Contents (Elt Ideal) arg14.view.ty) (G_arg15 : BufTy.Contents (Elt Ideal) arg15.view.ty) (G_arg16 : BufTy.Contents (Elt Ideal) arg16.view.ty) (G_arg17 : BufTy.Contents (Elt Ideal) arg17.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (∃ f, (arg14.view.loc (c : Thread nD τ) ↦[arg14.view.set]{fullShare} f) ∗ ⌜f = patchC harg14 (hidC X_arg1 X_arg2 X_arg3 X_arg4) G_arg14 k⌝) ∗ (∃ f, (arg15.view.loc (c : Thread nD τ) ↦[arg15.view.set]{fullShare} f) ∗ ⌜f = patchC harg15 (hidC X_arg1 X_arg2 X_arg3 X_arg4) G_arg15 k⌝) ∗ (∃ f, (arg16.view.loc (c : Thread nD τ) ↦[arg16.view.set]{fullShare} f) ∗ ⌜f = patchC harg16 (mask01 (arg3.view.read (Elt Ideal) X_arg3)) G_arg16 k⌝) ∗ (∃ f, (arg17.view.loc (c : Thread nD τ) ↦[arg17.view.set]{fullShare} f) ∗ ⌜f = patchC harg17 (stat (hidC X_arg1 X_arg2 X_arg3 X_arg4)) G_arg17 k⌝))

set_option warn.classDefReducibility false in
/-- One trip of the first loop takes its invariant one band further. -/
@[sl_loop] def bandLoop1 (𝒱 : Variants) (c : Dev nD) (bd : Option 𝒱.V) (E : Set ℕ) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (G_arg14 : BufTy.Contents (Elt Ideal) arg14.view.ty) (G_arg15 : BufTy.Contents (Elt Ideal) arg15.view.ty) (G_arg16 : BufTy.Contents (Elt Ideal) arg16.view.ty) (G_arg17 : BufTy.Contents (Elt Ideal) arg17.view.ty) :
    LoopInvTy_k0_t1 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 where
  inv := bandInv1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 G_arg14 G_arg15 G_arg16 G_arg17
  step k acc := by
    iintro ⟨HR_arg1, HR_arg2, HR_arg3, HR_arg4, ⟨%f_arg14, HW_arg14, %h_arg14⟩, ⟨%f_arg15, HW_arg15, %h_arg15⟩, ⟨%f_arg16, HW_arg16, %h_arg16⟩, ⟨%f_arg17, HW_arg17, %h_arg17⟩⟩
    iapply (wp_wand_r Idealize.ShloMosaic.frame (wpE (defs₀ (F := Ideal)) 𝒱 (c : Thread nD τ) bd) E)
    isplitl [HR_arg1 HR_arg2 HR_arg3 HR_arg4 HW_arg14 HW_arg15 HW_arg16 HW_arg17]
    · iapply ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 k).2.2.2.2 E f_arg14 f_arg15 f_arg16 f_arg17)
      isplitl [HR_arg1]; · iexact HR_arg1
      isplitl [HR_arg2]; · iexact HR_arg2
      isplitl [HR_arg3]; · iexact HR_arg3
      isplitl [HR_arg4]; · iexact HR_arg4
      isplitl [HW_arg14]; · iexact HW_arg14
      isplitl [HW_arg15]; · iexact HW_arg15
      isplitl [HW_arg16]; · iexact HW_arg16
      iexact HW_arg17
    · iintro %_ ⟨HR_arg1, HR_arg2, HR_arg3, HR_arg4, HW_arg14, HW_arg15, HW_arg16, HW_arg17⟩
      unfold bandInv1
      isplitl [HR_arg1]; · iexact HR_arg1
      isplitl [HR_arg2]; · iexact HR_arg2
      isplitl [HR_arg3]; · iexact HR_arg3
      isplitl [HR_arg4]; · iexact HR_arg4
      isplitl [HW_arg14]
      · iexists _; isplitl [HW_arg14]; · iexact HW_arg14
        ipureintro
        subst h_arg14 h_arg15 h_arg16 h_arg17
        exact (trip1_hid 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 k).writes harg14 G_arg14
      isplitl [HW_arg15]
      · iexists _; isplitl [HW_arg15]; · iexact HW_arg15
        ipureintro
        subst h_arg14 h_arg15 h_arg16 h_arg17
        exact (trip1_y 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 k).writes harg15 G_arg15
      isplitl [HW_arg16]
      · iexists _; isplitl [HW_arg16]; · iexact HW_arg16
        ipureintro
        subst h_arg14 h_arg15 h_arg16 h_arg17
        exact (trip1_mask 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 k).writes harg16 G_arg16
      iexists _; isplitl [HW_arg17]; · iexact HW_arg17
      ipureintro
      subst h_arg14 h_arg15 h_arg16 h_arg17
      exact (trip1_stat 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 k).writes harg17 G_arg17

/-- Before trip `k` of the third loop. -/
abbrev bandInv3 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (v30 : FVec Ideal S128x1 .f32) (X_arg5 : BufTy.Contents (Elt Ideal) arg5.view.ty) (X_arg6 : BufTy.Contents (Elt Ideal) arg6.view.ty) (X_arg17 : BufTy.Contents (Elt Ideal) arg17.view.ty) (G_arg15 : BufTy.Contents (Elt Ideal) arg15.view.ty) (G_arg18 : BufTy.Contents (Elt Ideal) arg18.view.ty) (k : ℕ) (_u : PUnit) : sProp 𝕄G :=
  iprop((arg5.view.loc (c : Thread nD τ) ↦[arg5.view.set]{fullShare} X_arg5) ∗ (arg6.view.loc (c : Thread nD τ) ↦[arg6.view.set]{fullShare} X_arg6) ∗ (arg17.view.loc (c : Thread nD τ) ↦[arg17.view.set]{fullShare} X_arg17) ∗ (∃ f, (arg15.view.loc (c : Thread nD τ) ↦[arg15.view.set]{fullShare} f) ∗ ⌜f = patchC harg15 (lnormC G_arg15 X_arg17 X_arg5 X_arg6) G_arg15 k⌝) ∗ (∃ f, (arg18.view.loc (c : Thread nD τ) ↦[arg18.view.set]{fullShare} f) ∗ ⌜f = patchC harg18 (amax (lnormC G_arg15 X_arg17 X_arg5 X_arg6)) G_arg18 k⌝))

set_option warn.classDefReducibility false in
/-- One trip of the third loop takes its invariant one band further. -/
@[sl_loop] def bandLoop3 (𝒱 : Variants) (c : Dev nD) (bd : Option 𝒱.V) (E : Set ℕ) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (v30 : FVec Ideal S128x1 .f32) (X_arg5 : BufTy.Contents (Elt Ideal) arg5.view.ty) (X_arg6 : BufTy.Contents (Elt Ideal) arg6.view.ty) (X_arg17 : BufTy.Contents (Elt Ideal) arg17.view.ty) (G_arg15 : BufTy.Contents (Elt Ideal) arg15.view.ty) (G_arg18 : BufTy.Contents (Elt Ideal) arg18.view.ty) :
    LoopInvTy_k0_t3 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v30 where
  inv := bandInv3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v30 X_arg5 X_arg6 X_arg17 G_arg15 G_arg18
  step k acc := by
    iintro ⟨HR_arg5, HR_arg6, HR_arg17, ⟨%f_arg15, HW_arg15, %h_arg15⟩, ⟨%f_arg18, HW_arg18, %h_arg18⟩⟩
    iapply (wp_wand_r Idealize.ShloMosaic.frame (wpE (defs₀ (F := Ideal)) 𝒱 (c : Thread nD τ) bd) E)
    isplitl [HR_arg5 HR_arg6 HR_arg17 HW_arg15 HW_arg18]
    · iapply ((trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v30 X_arg5 X_arg6 X_arg17 k).2.2 E f_arg15 f_arg18)
      isplitl [HR_arg5]; · iexact HR_arg5
      isplitl [HR_arg6]; · iexact HR_arg6
      isplitl [HR_arg17]; · iexact HR_arg17
      isplitl [HW_arg15]; · iexact HW_arg15
      iexact HW_arg18
    · iintro %_ ⟨HR_arg5, HR_arg6, HR_arg17, HW_arg15, HW_arg18⟩
      unfold bandInv3
      isplitl [HR_arg5]; · iexact HR_arg5
      isplitl [HR_arg6]; · iexact HR_arg6
      isplitl [HR_arg17]; · iexact HR_arg17
      isplitl [HW_arg15]
      · iexists _; isplitl [HW_arg15]; · iexact HW_arg15
        ipureintro
        subst h_arg15 h_arg18
        exact ((trip3_ln 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v30 X_arg5 X_arg6 X_arg17 k _ (patchC harg18 (amax (lnormC G_arg15 X_arg17 X_arg5 X_arg6)) G_arg18 k.val)).congr fun y h0 _ => lnorm_band harg15 _ _ _ _ _ k.val y h0).writes harg15 G_arg15
      iexists _; isplitl [HW_arg18]; · iexact HW_arg18
      ipureintro
      subst h_arg15 h_arg18
      exact ((trip3_amax 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v30 X_arg5 X_arg6 X_arg17 k _ _).congr fun y h0 _ => amax_band harg15 _ _ _ _ _ k.val y h0).writes harg18 G_arg18

end Cert.KernelIdeal.Gen
-- ==== Proof.Outs.lean ====
module

public import proofs.«01_k».proof.Proof.Tile2

@[expose] public section

noncomputable section

/-! # What the kernel's body computes from its block operands -/

namespace Cert.Block

open Idealize.ShloMosaic Idealize.ShloMosaic.TcCoe Cert.KernelIdeal Cert.KernelIdeal.Gen

variable (x a : S128x8192.Idx → EReal) (r : S128x8192.Idx → BitVec 32) (b ga be : S1x8192.Idx → EReal)

/-- The mean of every row, on each of 128 lanes. -/
def meanS : S128x128.Idx → EReal := k0_pay776 (F := Ideal) (stat (hid x a r b))

/-- The centred residual stream. -/
def cenB : S128x8192.Idx → EReal := cen (hid x a r b) (meanS x a r b)

/-- The lane sums of its squares. -/
def sqS : S128x128.Idx → EReal := stat (sq (cenB x a r b))

/-- The reciprocal standard deviation of every row, on each of 128 lanes. -/
def rstdS : S128x128.Idx → EReal := k0_pay781 (F := Ideal) (k0_pay780 (F := Ideal) (sqS x a r b))

/-- The normalised residual stream. -/
def normB : S128x8192.Idx → EReal := lnorm (cenB x a r b) (rstdS x a r b) ga be

/-- The exponent field that the kernel's search finds for the block maxima `A`, scaled. -/
def field (A : S128x64.Idx → EReal) : S128x64.Idx → BitVec 32 :=
  k0_pay806 (F := Ideal) A
    (k0_pay804 (F := Ideal) (k0_pay790 (F := Ideal) A) (k0_pay791 (F := Ideal) A) (k0_pay792 (F := Ideal) A) (k0_pay793 (F := Ideal) A))
    (k0_pay805 (F := Ideal) (k0_pay791 (F := Ideal) A) (k0_pay792 (F := Ideal) A))

/-- The exponent fields of the block. -/
def fieldB : S128x64.Idx → BitVec 32 := field (amax (normB x a r b ga be))

/-- The means, as the kernel stores them. -/
def oMean : S1x128.Idx → EReal := k0_pay775 (F := Ideal) (stat (hid x a r b))

/-- The reciprocal standard deviations, as the kernel stores them. -/
def oRstd : S1x128.Idx → EReal := k0_pay779 (F := Ideal) (sqS x a r b)

/-- The scales. -/
def oScale : S128x64.Idx → EReal := k0_pay808 (F := Ideal) (fieldB x a r b ga be)

/-- The reciprocal scales, spread over their blocks by the matrix `sp`. -/
def spreadB (sp : S64x8192.Idx → EReal) (f : S128x64.Idx → BitVec 32) (y : S128x8192.Idx) : EReal :=
  ∑ j : Fin 64, k0_pay809 (F := Ideal) f (ix2 (show Fin 128 from y 0) j) * sp (ix2 j (show Fin 8192 from y 1))

/-- A scaled and clipped entry. -/
def clipE (v s : EReal) : EReal := min (Ideal.ofBits .f32 0x43E00000#32) (max (Ideal.ofBits .f32 0xC3E00000#32) (v * s))

/-- The codes. -/
def oCode (sp : S64x8192.Idx → EReal) (y : S128x8192.Idx) : EReal :=
  clipE (normB x a r b ga be y) (spreadB sp (fieldB x a r b ga be) y)

/-- The packed mask. -/
def oMask (pw : S1024x128.Idx → EReal) (z : S128x1024.Idx) : BitVec 8 :=
  BitVec.setWidth 8 (FloatOps.fptosi (F := Ideal) (φ := .f32) 32
    (∑ k : Fin 1024, mask01 r (ix2 (show Fin 128 from z 0) (⟨(1024 * ((z 1).val / 128) + k.val) % 8192, Nat.mod_lt _ (by decide)⟩ : Fin 8192))
      * pw (ix2 k (⟨(z 1).val % 128, Nat.mod_lt _ (by decide)⟩ : Fin 128))))

end Cert.Block
-- ==== Proof.Run.lean ====
module

public import proofs.«01_k».proof.Proof.LoopInv
public import proofs.«01_k».proof.Proof.Outs

@[expose] public section
set_option maxRecDepth 8192
set_option maxHeartbeats 8000000

noncomputable section

/-! # The body, run through -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

/-- The body's triple: from the operands' contents, and any contents of the results' and the scratch arrays, the body runs to
    its end, the operands unchanged and the six results holding what this definition carries. -/
@[irreducible] def bodyRun (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole)
    (x0 : Vec Ideal S128x8192 .bf16) (x1 : Vec Ideal S128x8192 .bf16) (x2 : Vec Ideal S128x8192 .i32) (x3 : Vec Ideal S1x8192 .f32) (x4 : Vec Ideal S1x8192 .f32) (x5 : Vec Ideal S1x8192 .f32) (x6 : Vec Ideal S1024x128 .bf16) (x7 : Vec Ideal S64x8192 .bf16) (f8 : BufTy.Contents (Elt Ideal) arg9.view.ty) (f9 : BufTy.Contents (Elt Ideal) arg10.view.ty) (f10 : BufTy.Contents (Elt Ideal) arg11.view.ty) (f11 : BufTy.Contents (Elt Ideal) arg12.view.ty) (f12 : BufTy.Contents (Elt Ideal) arg13.view.ty) (f13 : BufTy.Contents (Elt Ideal) arg14.view.ty) (fs0 : BufTy.Contents (Elt Ideal) arg15.view.ty) (fs1 : BufTy.Contents (Elt Ideal) arg16.view.ty) (fs2 : BufTy.Contents (Elt Ideal) arg17.view.ty) (fs3 : BufTy.Contents (Elt Ideal) arg18.view.ty) :
    Σ' (W9 : BufTy.Contents (Elt Ideal) arg9.view.ty) (W10 : BufTy.Contents (Elt Ideal) arg10.view.ty) (W11 : BufTy.Contents (Elt Ideal) arg11.view.ty) (W12 : BufTy.Contents (Elt Ideal) arg12.view.ty) (W13 : BufTy.Contents (Elt Ideal) arg13.view.ty), { W14 : BufTy.Contents (Elt Ideal) arg14.view.ty // ∀ (E : Set ℕ) (K : PUnit → sProp 𝕄G),
      iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} harg7.unread x6) ∗ (arg8.view.loc (c : Thread nD τ) ↦[arg8.view.set]{fullShare} harg8.unread x7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} fs0) ∗ (arg16.view.loc (c : Thread nD τ) ↦[arg16.view.set]{fullShare} fs1) ∗ (arg17.view.loc (c : Thread nD τ) ↦[arg17.view.set]{fullShare} fs2) ∗ (arg18.view.loc (c : Thread nD τ) ↦[arg18.view.set]{fullShare} fs3)
        ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} harg7.unread x6) ∗ (arg8.view.loc (c : Thread nD τ) ↦[arg8.view.set]{fullShare} harg8.unread x7) ∗ (arg9.view.loc (c : Thread nD τ) ↦[arg9.view.set]{fullShare} W9) ∗ (arg10.view.loc (c : Thread nD τ) ↦[arg10.view.set]{fullShare} W10) ∗ (arg11.view.loc (c : Thread nD τ) ↦[arg11.view.set]{fullShare} W11) ∗ (arg12.view.loc (c : Thread nD τ) ↦[arg12.view.set]{fullShare} W12) ∗ (arg13.view.loc (c : Thread nD τ) ↦[arg13.view.set]{fullShare} W13) ∗ (arg14.view.loc (c : Thread nD τ) ↦[arg14.view.set]{fullShare} W14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f))) -∗ K ⟨⟩))
      ⊢ wp frame (wpE (defs₀ (F := Ideal)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0__body_eq_skeleton]; unfold cc0__body_skel
    simp only [k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton]
    iintro ⟨H0, H1, H2, H3, H4, H5, H6, H7, H8, H9, H10, H11, H12, H13, HS0, HS1, HS2, HS3, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexists _; iexact HS0
    isplitl [HS1]; · iexists _; iexact HS1
    isplitl [HS2]; · iexists _; iexact HS2
    iexists _; iexact HS3

end Cert.KernelIdeal.Gen
-- ==== Proof.Loop2Bands.lean ====
module

public import proofs.«01_k».proof.Proof.LoopInv

@[expose] public section
set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

/-- Before trip `k` of the second loop the rows below `32 * k` are centred, and their sums of squares are in place. -/
theorem pb2_eq (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole) (G15 : BufTy.Contents (Elt Ideal) arg15.view.ty) (G17 : BufTy.Contents (Elt Ideal) arg17.view.ty) (k : ℕ) (hk : k ≤ k0_t2_loop.trips) :
    arg15.view.writes (Elt Ideal) G15 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 G15 G17 k).1 = patchC harg15 (cenC G15 G17) G15 k
      ∧ arg17.view.writes (Elt Ideal) G17 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 G15 G17 k).2 = patchC harg17 (stat (sq (cenC G15 G17))) G17 k := by
  induction k with
  | zero => exact ⟨rfl, rfl⟩
  | succ k ih =>
    obtain ⟨h15, h17⟩ := ih (Nat.le_of_succ_le hk)
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 G15 G17 ⟨k, hk⟩
    rw [h15, h17] at e
    rw [e]
    constructor
    · refine (View.writes_append _ _ _ _).trans ?_
      rw [h15]
      unfold tripL_k0_t2
      exact ((trip2_cen 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ⟨k, hk⟩ _ _).congr fun y h0 _ => cen_band harg15 harg17 _ _ _ _ k y h0).writes harg15 G15
    · refine (View.writes_append _ _ _ _).trans ?_
      rw [h17]
      unfold tripL_k0_t2
      exact ((trip2_stat 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ⟨k, hk⟩ _ _).congr fun y h0 _ => stat_sq_band harg15 harg17 _ _ _ _ k y h0).writes harg17 G17

end Cert.KernelIdeal.Gen
-- ==== Proof.RunVals.lean ====
module

public import proofs.«01_k».proof.Proof.Run
public import proofs.«01_k».proof.Proof.Loop2Bands

@[expose] public section
set_option maxRecDepth 8192
set_option maxHeartbeats 4000000

noncomputable section

/-! # What the scratch arrays hold after the body's loops -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

section Whole

variable {Val : EltTy → Type} {κ : Kind} {sp : Space} {s : Shape} {e : EltTy}

theorem unit_zero_emb {off : Fin s.rank → ℕ} (h : ∀ a, off a = 0) (inb : ∀ a, off a + s.size a ≤ s.size a) (x : s.Idx) :
    (Rect.unit off s.size inb).emb x = x := by
  obtain rfl : off = fun _ => 0 := funext h
  exact Rect.emb_whole_apply s x

/-- A store of a whole array leaves the stored value. -/
theorem read_writes_full (v : View sig κ sp s e) (f : v.ty.Contents Val) {off : Fin s.rank → ℕ} (h : ∀ a, off a = 0)
    (inb : ∀ a, off a + s.size a ≤ s.size a) (w : s.Idx → Val e) (L : List (View.Piece Val s e)) :
    v.read Val (v.writes Val f (⟨Rect.unit off s.size inb, w⟩ :: L)) = w :=
  funext fun y => View.read_writes_cons_hit v f (Rect.unit off s.size inb) w L y y (unit_zero_emb h inb y)

/-- A load of a whole array. -/
theorem readAt_full (v : View sig κ sp s e) (f : v.ty.Contents Val) {off : Fin s.rank → ℕ} (h : ∀ a, off a = 0)
    (inb : ∀ a, off a + s.size a ≤ s.size a) : v.readAt Val (Rect.unit off s.size inb).toLoadRect f = v.read Val f :=
  funext fun y => congrArg (v.read Val f) (unit_zero_emb h inb y)

end Whole

theorem lit_zero (a : Fin 2) : (![0, 0] : Fin 2 → ℕ) a = 0 := by fin_cases a <;> rfl

/-- After four bands nothing of an array of 128 rows is left as it was. -/
theorem read_patchC4 {Val : EltTy → Type} {κ : Kind} {sp : Space} {e : EltTy} {n : ℕ}
    {m : Memref sig κ sp ⟨2, ![128, n]⟩ e} (hm : m.IsWhole) (H : (⟨2, ![128, n]⟩ : Shape).Idx → Val e)
    (G : m.view.ty.Contents Val) (k : ℕ) (hk : k = 4) : m.view.read Val (patchC hm H G k) = H := by
  subst hk
  rw [patchC_all hm H G 4 (show 128 ≤ 32 * 4 by decide), hm.read_unread]

theorem trips1 : Scf.trips k0_t1_loop.lb k0_t1_loop.ub k0_t1_loop.st = 4 := by decide +kernel
theorem trips2 : Scf.trips k0_t2_loop.lb k0_t2_loop.ub k0_t2_loop.st = 4 := by decide +kernel
theorem trips3 : Scf.trips k0_t3_loop.lb k0_t3_loop.ub k0_t3_loop.st = 4 := by decide +kernel

section Scratch

variable (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole)
  (x0 : Vec Ideal S128x8192 .bf16) (x1 : Vec Ideal S128x8192 .bf16) (x2 : Vec Ideal S128x8192 .i32) (x3 : Vec Ideal S1x8192 .f32) (x4 : Vec Ideal S1x8192 .f32) (x5 : Vec Ideal S1x8192 .f32)
  (fs0 : BufTy.Contents (Elt Ideal) arg15.view.ty) (fs1 : BufTy.Contents (Elt Ideal) arg16.view.ty) (fs2 : BufTy.Contents (Elt Ideal) arg17.view.ty) (fs3 : BufTy.Contents (Elt Ideal) arg18.view.ty)

theorem hidC_unread : hidC (harg1.unread x0) (harg2.unread x1) (harg3.unread x2) (harg4.unread x3) = hid x0 x1 x2 x3 := by
  unfold hidC
  rw [harg1.read_unread, harg2.read_unread, harg3.read_unread, harg4.read_unread]

theorem v1_eq : bodyRun.sl.v1 arg1 harg1 arg2 harg2 arg3 harg3 arg4 harg4 arg17 harg17 x0 x1 x2 x3 fs2 = stat (hid x0 x1 x2 x3) := by
  unfold bodyRun.sl.v1
  refine (readAt_full arg17.view _ lit_zero _).trans ?_
  rw [hidC_unread, read_patchC4 harg17 _ _ _ trips1]

theorem hs2_eq (f : BufTy.Contents (Elt Ideal) arg17.view.ty) :
    arg17.view.read (Elt Ideal) (arg17.view.writes (Elt Ideal) f (bodyRun.sl.HS2_1 arg1 harg1 arg2 harg2 arg3 harg3 arg4 harg4 arg17 harg17 x0 x1 x2 x3 fs2)) = meanS x0 x1 x2 x3 := by
  unfold bodyRun.sl.HS2_1
  refine (read_writes_full arg17.view f lit_zero _ _ _).trans ?_
  rw [v1_eq]
  rfl

/-- The contents of the two arrays when the second loop is met. -/
abbrev g15 : BufTy.Contents (Elt Ideal) arg15.view.ty :=
  patchC harg15 (hidC (harg1.unread x0) (harg2.unread x1) (harg3.unread x2) (harg4.unread x3)) fs0 (Scf.trips k0_t1_loop.lb k0_t1_loop.ub k0_t1_loop.st)

abbrev g17 : BufTy.Contents (Elt Ideal) arg17.view.ty :=
  arg17.view.writes (Elt Ideal) arg17.view.junk (bodyRun.sl.HS2_1 arg1 harg1 arg2 harg2 arg3 harg3 arg4 harg4 arg17 harg17 x0 x1 x2 x3 fs2)

theorem cenC_eq : cenC (g15 arg1 harg1 arg2 harg2 arg3 harg3 arg4 harg4 arg15 harg15 x0 x1 x2 x3 fs0) (g17 arg1 harg1 arg2 harg2 arg3 harg3 arg4 harg4 arg17 harg17 x0 x1 x2 x3 fs2) = cenB x0 x1 x2 x3 := by
  unfold cenC g15 g17 cenB
  rw [hs2_eq, hidC_unread, read_patchC4 harg15 _ _ _ trips1]

/-- The pieces of the second loop. -/
abbrev p2 := pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (g15 arg1 harg1 arg2 harg2 arg3 harg3 arg4 harg4 arg15 harg15 x0 x1 x2 x3 fs0) (g17 arg1 harg1 arg2 harg2 arg3 harg3 arg4 harg4 arg17 harg17 x0 x1 x2 x3 fs2) (Scf.trips k0_t2_loop.lb k0_t2_loop.ub k0_t2_loop.st)

theorem p2_cen : arg15.view.read (Elt Ideal) (arg15.view.writes (Elt Ideal) (g15 arg1 harg1 arg2 harg2 arg3 harg3 arg4 harg4 arg15 harg15 x0 x1 x2 x3 fs0) (p2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 fs0 fs2).1) = cenB x0 x1 x2 x3 := by
  refine (congrArg _ (pb2_eq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ (le_refl _)).1).trans ?_
  rw [read_patchC4 harg15 _ _ _ trips2, cenC_eq]

theorem v17_eq : bodyRun.sl.v17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 fs0 fs2 = sqS x0 x1 x2 x3 := by
  unfold bodyRun.sl.v17
  refine (readAt_full arg17.view _ lit_zero _).trans ?_
  refine (congrArg _ (View.writes_append _ _ _ _)).trans ?_
  refine (congrArg _ (pb2_eq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ (le_refl _)).2).trans ?_
  rw [read_patchC4 harg17 _ _ _ trips2, cenC_eq]
  rfl

/-- The contents of the lane array when the third loop is met. -/
abbrev h17 : BufTy.Contents (Elt Ideal) arg17.view.ty :=
  arg17.view.writes (Elt Ideal) arg17.view.junk (⟨Rect.unit ![0, 0] S128x128.size inb_S128x128_S128x128_0_0, k0_pay781 (bodyRun.sl.r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 fs0 fs2)⟩ :: ((p2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 fs0 fs2).2 ++ bodyRun.sl.HS2_1 arg1 harg1 arg2 harg2 arg3 harg3 arg4 harg4 arg17 harg17 x0 x1 x2 x3 fs2))

theorem h17_eq : arg17.view.read (Elt Ideal) (h17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 fs0 fs2) = rstdS x0 x1 x2 x3 := by
  refine (read_writes_full arg17.view _ lit_zero _ _ _).trans ?_
  unfold bodyRun.sl.r
  rw [v17_eq]
  rfl

theorem lnormC_eq : lnormC (arg15.view.writes (Elt Ideal) (g15 arg1 harg1 arg2 harg2 arg3 harg3 arg4 harg4 arg15 harg15 x0 x1 x2 x3 fs0) (p2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 fs0 fs2).1)
    (h17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 fs0 fs2) (harg5.unread x4) (harg6.unread x5) = normB x0 x1 x2 x3 x4 x5 := by
  unfold lnormC
  rw [p2_cen, h17_eq, harg5.read_unread, harg6.read_unread]
  rfl

/-- What the large array holds at the end. -/
abbrev c15 : BufTy.Contents (Elt Ideal) arg15.view.ty :=
  patchC harg15 (lnormC (arg15.view.writes (Elt Ideal) (g15 arg1 harg1 arg2 harg2 arg3 harg3 arg4 harg4 arg15 harg15 x0 x1 x2 x3 fs0) (p2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 fs0 fs2).1)
    (h17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 fs0 fs2) (harg5.unread x4) (harg6.unread x5))
    (arg15.view.writes (Elt Ideal) (g15 arg1 harg1 arg2 harg2 arg3 harg3 arg4 harg4 arg15 harg15 x0 x1 x2 x3 fs0) (p2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 fs0 fs2).1)
    (Scf.trips k0_t3_loop.lb k0_t3_loop.ub k0_t3_loop.st)

theorem c15_eq : arg15.view.read (Elt Ideal) (c15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 fs0 fs2) = normB x0 x1 x2 x3 x4 x5 := by
  rw [read_patchC4 harg15 _ _ _ trips3, lnormC_eq]

theorem v36_eq : bodyRun.sl.v36 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 fs0 fs2 fs3 = amax (normB x0 x1 x2 x3 x4 x5) := by
  unfold bodyRun.sl.v36
  refine (readAt_full arg18.view _ lit_zero _).trans ?_
  refine (read_patchC4 harg18 _ _ _ trips3).trans ?_
  exact congrArg amax (lnormC_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 fs0 fs2)

theorem r7_eq : bodyRun.sl.r_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 fs0 fs2 fs3 = fieldB x0 x1 x2 x3 x4 x5 := by
  unfold bodyRun.sl.r_7 bodyRun.sl.r_5 bodyRun.sl.r_6 bodyRun.sl.r_1 bodyRun.sl.r_2 bodyRun.sl.r_3 bodyRun.sl.r_4
  rw [v36_eq]
  rfl

end Scratch

section Small

variable (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole)
  (x0 : Vec Ideal S128x8192 .bf16) (x1 : Vec Ideal S128x8192 .bf16) (x2 : Vec Ideal S128x8192 .i32) (x3 : Vec Ideal S1x8192 .f32) (x4 : Vec Ideal S1x8192 .f32) (x5 : Vec Ideal S1x8192 .f32) (x6 : Vec Ideal S1024x128 .bf16) (x7 : Vec Ideal S64x8192 .bf16)
  (f8 : BufTy.Contents (Elt Ideal) arg9.view.ty) (f9 : BufTy.Contents (Elt Ideal) arg10.view.ty) (f10 : BufTy.Contents (Elt Ideal) arg11.view.ty) (f11 : BufTy.Contents (Elt Ideal) arg12.view.ty) (f12 : BufTy.Contents (Elt Ideal) arg13.view.ty) (f13 : BufTy.Contents (Elt Ideal) arg14.view.ty)
  (fs0 : BufTy.Contents (Elt Ideal) arg15.view.ty) (fs1 : BufTy.Contents (Elt Ideal) arg16.view.ty) (fs2 : BufTy.Contents (Elt Ideal) arg17.view.ty) (fs3 : BufTy.Contents (Elt Ideal) arg18.view.ty)

/-- The scales after the body. -/
theorem run_scale : arg10.view.read (Elt Ideal) (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3).2.1 = oScale x0 x1 x2 x3 x4 x5 := by
  unfold bodyRun
  refine (read_writes_full arg10.view _ lit_zero _ _ _).trans ?_
  rw [r7_eq]
  rfl

/-- The means after the body. -/
theorem run_mean : arg12.view.read (Elt Ideal) (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3).2.2.2.1 = oMean x0 x1 x2 x3 := by
  unfold bodyRun bodyRun.sl.H11_1
  refine (read_writes_full arg12.view _ lit_zero _ _ _).trans ?_
  rw [v1_eq]
  rfl

/-- The reciprocal standard deviations after the body. -/
theorem run_rstd : arg13.view.read (Elt Ideal) (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3).2.2.2.2.1 = oRstd x0 x1 x2 x3 := by
  unfold bodyRun bodyRun.sl.H12_1
  refine (read_writes_full arg13.view _ lit_zero _ _ _).trans ?_
  rw [v17_eq]
  rfl

/-- The residual stream after the body. -/
theorem run_hid : arg14.view.read (Elt Ideal) (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3).2.2.2.2.2.1 = hid x0 x1 x2 x3 := by
  unfold bodyRun
  refine (read_patchC4 harg14 _ _ _ trips1).trans ?_
  exact hidC_unread arg1 harg1 arg2 harg2 arg3 harg3 arg4 harg4 x0 x1 x2 x3

end Small

end Cert.KernelIdeal.Gen
-- ==== Proof.Cols.lean ====
module

public import proofs.«01_k».proof.Proof.RunVals
public import Idealize.ShloMosaic.Lib.Pointwise

@[expose] public section
set_option maxRecDepth 8192
set_option maxHeartbeats 4000000

noncomputable section

/-! # Results written column tile by column tile -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

/-- `L` is a list of full-height tiles: each tile's values are `G`'s, and the tiles cover the first `c` columns. -/
structure Cols {Val : EltTy → Type} {e : EltTy} {n : ℕ} (G : (⟨2, ![128, n]⟩ : Shape).Idx → Val e) (c : ℕ)
    (L : List (View.Piece Val ⟨2, ![128, n]⟩ e)) : Prop where
  val : ∀ p ∈ L, ∀ x : p.1.shape.Idx, p.2 x = G (p.1.emb x)
  cov : ∀ y : (⟨2, ![128, n]⟩ : Shape).Idx, (y (1 : Fin 2)).val < c → ∃ p ∈ L, y ∈ p.1.set

theorem Cols.nil {Val : EltTy → Type} {e : EltTy} {n : ℕ} (G : (⟨2, ![128, n]⟩ : Shape).Idx → Val e) : Cols G 0 [] :=
  ⟨fun _ h => absurd h List.not_mem_nil, fun _ h => absurd h (Nat.not_lt_zero _)⟩

/-- One tile of 128 columns more. -/
theorem Cols.cons {Val : EltTy → Type} {e : EltTy} {n : ℕ} {G : (⟨2, ![128, n]⟩ : Shape).Idx → Val e} {c c' : ℕ}
    {L : List (View.Piece Val ⟨2, ![128, n]⟩ e)}
    (inb : ∀ a, (![0, c] : Fin 2 → ℕ) a + (![128, 128] : Fin 2 → ℕ) a ≤ (![128, n] : Fin 2 → ℕ) a)
    (v : (Rect.unit (s := ⟨2, ![128, n]⟩) ![0, c] ![128, 128] inb).shape.Idx → Val e) (hc : c' = c + 128)
    (hv : ∀ x, v x = G ((Rect.unit (s := ⟨2, ![128, n]⟩) ![0, c] ![128, 128] inb).emb x)) (hL : Cols G c L) :
    Cols G c' (⟨Rect.unit (s := ⟨2, ![128, n]⟩) ![0, c] ![128, 128] inb, v⟩ :: L) where
  val := List.forall_mem_cons.2 ⟨hv, hL.val⟩
  cov y h1 := by
    subst hc
    by_cases hc : (y (1 : Fin 2)).val < c
    · obtain ⟨p, hp, hy⟩ := hL.cov y hc
      exact ⟨p, List.mem_cons_of_mem _ hp, hy⟩
    · refine ⟨_, List.mem_cons_self, ?_⟩
      rw [Rect.mem_set_unit]
      intro a
      fin_cases a
      · exact ⟨Nat.zero_le _, (Nat.zero_add 128).symm ▸ (y (0 : Fin 2)).isLt⟩
      · exact ⟨Nat.le_of_not_lt hc, h1⟩

/-- Reading an array covered by such tiles. -/
theorem Cols.read {Val : EltTy → Type} {κ : Kind} {sp : Space} {e : EltTy} {n : ℕ} {G : (⟨2, ![128, n]⟩ : Shape).Idx → Val e}
    {L : List (View.Piece Val ⟨2, ![128, n]⟩ e)} (hL : Cols G n L) (v : View sig κ sp ⟨2, ![128, n]⟩ e) (f : v.ty.Contents Val) :
    v.read Val (v.writes Val f L) = G :=
  funext fun y => View.read_writes_apply_of_pieces v f G L hL.val y (hL.cov y (y (1 : Fin 2)).isLt)

section Tile

variable {arg15 : Memref sig .tc .vmem S128x8192 .f32} {arg8 : Memref sig .tc .vmem S64x8192 .bf16}

/-- The entries of the spread reciprocal scales times the normalised stream, clipped. -/
def codeC (C : BufTy.Contents (Elt Ideal) arg15.view.ty) (X8 : BufTy.Contents (Elt Ideal) arg8.view.ty) (A : FVec Ideal S128x64 .bf16)
    (y : S128x8192.Idx) : EReal :=
  clipE (arg15.view.read (Elt Ideal) C y) (∑ j : Fin 64, A (ix2 (show Fin 128 from y 0) j) * arg8.view.read (Elt Ideal) X8 (ix2 j (show Fin 8192 from y 1)))

theorem group_mm (A : FVec Ideal S128x64 .bf16) (B : FVec Ideal S64x1024 .bf16) (z : S128x1024.Idx) :
    matmul (F := Ideal) (φ₁ := .bf16) (φ₂ := .bf16) dot_S128x64_S64x1024_S128x1024_1_0_0_1_n_n none A B (constant S128x1024 .f32 0x00000000#32) z
      = ∑ j : Fin 64, A (ix2 (show Fin 128 from z 0) j) * B (ix2 j (show Fin 1024 from z 1)) := by
  pointwise []

theorem code_pay (V : FVec Ideal S128x128 .f32) (A : FVec Ideal S128x64 .bf16) (B : FVec Ideal S64x1024 .bf16) (o : ℕ) (sc) (hb)
    (hs : S128x1024.Slices ![0, o] S128x128) (x : S128x128.Idx) (x1 : Fin 1024) (hx : x1.val = o + (x 1).val) :
    truncf (F := Ideal) .fp8e4m3 (minimumf (broadcast S128x128 (Scalar.ofBits .f32 0x43E00000#32))
      (maximumf (broadcast S128x128 (Scalar.ofBits .f32 0xC3E00000#32)) (mulf V (extractStridedSlice S128x128 ![0, o]
        (matmul (φ₁ := .bf16) (φ₂ := .bf16) dot_S128x64_S64x1024_S128x1024_1_0_0_1_n_n none A (shapeCast S64x1024 B sc) (constant S128x1024 .f32 0x00000000#32)) hs)))) hb x
      = clipE (V x) (∑ j : Fin 64, A (ix2 (show Fin 128 from x 0) j) * B (ix2 j x1)) := by
  have e : extractStridedSlice S128x128 ![0, o] (matmul (F := Ideal) (φ₁ := .bf16) (φ₂ := .bf16) dot_S128x64_S64x1024_S128x1024_1_0_0_1_n_n none A (shapeCast S64x1024 B sc) (constant S128x1024 .f32 0x00000000#32)) hs x
      = ∑ j : Fin 64, A (ix2 (show Fin 128 from x 0) j) * B (ix2 j x1) := by
    refine (group_mm A _ _).trans ?_
    have e0 : shapeCast S64x1024 B sc = B := by funext z; pointwise []
    rw [e0]
    refine Finset.sum_congr rfl fun j _ => ?_
    refine congrArg₂ (fun a b : EReal => a * b) (congrArg A (congrArg (fun a => ix2 a j) (Fin.ext ?_))) (congrArg B (congrArg (fun b => ix2 j b) (Fin.ext ?_)))
    · show 0 + (x 0).val = (x 0).val
      omega
    · exact hx.symm
  exact congrArg (clipE (V x)) e

/-- A tile of codes. -/
theorem code_tile (C : BufTy.Contents (Elt Ideal) arg15.view.ty) (X8 : BufTy.Contents (Elt Ideal) arg8.view.ty) (A : FVec Ideal S128x64 .bf16)
    {cc g o : ℕ} (hc : cc = g + o) (inb : ∀ a, (![0, cc] : Fin 2 → ℕ) a + S128x128.size a ≤ S128x8192.size a)
    (inb8 : ∀ a, (![0, g] : Fin 2 → ℕ) a + S64x1024.size a ≤ S64x8192.size a) (sc) (hb)
    (hs : S128x1024.Slices ![0, o] S128x128) (x : S128x128.Idx) :
    truncf (F := Ideal) .fp8e4m3 (minimumf (broadcast S128x128 (Scalar.ofBits .f32 0x43E00000#32))
      (maximumf (broadcast S128x128 (Scalar.ofBits .f32 0xC3E00000#32))
        (mulf (View.readAt (Elt Ideal) arg15.view (Rect.unit (s := S128x8192) ![0, cc] S128x128.size inb).toLoadRect C) (extractStridedSlice S128x128 ![0, o]
        (matmul (φ₁ := .bf16) (φ₂ := .bf16) dot_S128x64_S64x1024_S128x1024_1_0_0_1_n_n none A
          (shapeCast S64x1024 (View.readAt (Elt Ideal) arg8.view (Rect.unit (s := S64x8192) ![0, g] S64x1024.size inb8).toLoadRect X8) sc)
          (constant S128x1024 .f32 0x00000000#32)) hs)))) hb x
      = codeC C X8 A ((Rect.unit (s := S128x8192) ![0, cc] S128x128.size inb).emb x) := by
  have hlt : o + (x 1).val < 1024 := by
    obtain ⟨_, h⟩ := hs
    have h1 : o + 128 ≤ 1024 := h (1 : Fin 2)
    have h2 : (x 1).val < 128 := (x 1).isLt
    omega
  refine (code_pay _ A _ o sc hb hs x ⟨o + (x 1).val, hlt⟩ rfl).trans ?_
  unfold codeC
  subst hc
  refine congrArg (clipE _) (Finset.sum_congr rfl fun j _ => ?_)
  refine congrArg₂ (fun a b : EReal => a * b) (congrArg A (congrArg (fun a => ix2 a j) (Fin.ext ?_))) (congrArg (View.read (Elt Ideal) arg8.view X8) ?_)
  · show (x 0).val = 0 + 1 * (x 0).val
    omega
  · funext a
    fin_cases a
    · refine Fin.ext ?_
      show 0 + 1 * j.val = j.val
      omega
    · refine Fin.ext ?_
      show g + 1 * (o + (x 1).val) = g + o + 1 * (x 1).val
      omega

/-- A tile of packed mask bytes, over the columns `C` of the kept ones. -/
def maskC {arg16 : Memref sig .tc .vmem S128x8192 .bf16} {arg7 : Memref sig .tc .vmem S1024x128 .bf16} (C : BufTy.Contents (Elt Ideal) arg16.view.ty) (X7 : BufTy.Contents (Elt Ideal) arg7.view.ty)
    (z : S128x1024.Idx) : BitVec 8 :=
  BitVec.setWidth 8 (FloatOps.fptosi (F := Ideal) (φ := .f32) 32
    (∑ k : Fin 1024, arg16.view.read (Elt Ideal) C (ix2 (show Fin 128 from z 0) (⟨(1024 * ((z 1).val / 128) + k.val) % 8192, Nat.mod_lt _ (by decide)⟩ : Fin 8192))
      * arg7.view.read (Elt Ideal) X7 (ix2 k (⟨(z 1).val % 128, Nat.mod_lt _ (by decide)⟩ : Fin 128))))

theorem mask_pay (V : Vec Ideal S128x1024 .bf16) (W : Vec Ideal S1024x128 .bf16) (x : S128x128.Idx) :
    k0_pay901 (F := Ideal) V W x = BitVec.setWidth 8 (FloatOps.fptosi (F := Ideal) (φ := .f32) 32
      (∑ k : Fin 1024, V (ix2 (show Fin 128 from x 0) k) * W (ix2 k (show Fin 128 from x 1)))) := by
  pointwise [k0_pay901]

theorem mask_tile {arg16 : Memref sig .tc .vmem S128x8192 .bf16} {arg7 : Memref sig .tc .vmem S1024x128 .bf16} (C : BufTy.Contents (Elt Ideal) arg16.view.ty) (X7 : BufTy.Contents (Elt Ideal) arg7.view.ty)
    {g cc : ℕ} (q : ℕ) (hq : q < 8) (hg : g = 1024 * q) (hc : cc = 128 * q) (inb : ∀ a, (![0, g] : Fin 2 → ℕ) a + S128x1024.size a ≤ S128x8192.size a)
    (inb7 : ∀ a, (![0, 0] : Fin 2 → ℕ) a + S1024x128.size a ≤ S1024x128.size a)
    (inb11 : ∀ a, (![0, cc] : Fin 2 → ℕ) a + S128x128.size a ≤ S128x1024.size a) (x : S128x128.Idx) :
    k0_pay901 (F := Ideal) (View.readAt (Elt Ideal) arg16.view (Rect.unit (s := S128x8192) ![0, g] S128x1024.size inb).toLoadRect C)
      (View.readAt (Elt Ideal) arg7.view (Rect.unit (s := S1024x128) ![0, 0] S1024x128.size inb7).toLoadRect X7) x
      = maskC C X7 ((Rect.unit (s := S128x1024) ![0, cc] S128x128.size inb11).emb x) := by
  refine (mask_pay _ _ x).trans ?_
  subst hg hc
  unfold maskC
  refine congrArg (fun s => BitVec.setWidth 8 (FloatOps.fptosi (F := Ideal) (φ := .f32) 32 s)) (Finset.sum_congr rfl fun k _ => ?_)
  have h1 : (x 1).val < 128 := (x 1).isLt
  have hk := k.isLt
  refine congrArg₂ (fun a b : EReal => a * b) (congrArg (View.read (Elt Ideal) arg16.view C) ?_) (congrArg (View.read (Elt Ideal) arg7.view X7) ?_)
  · funext a
    fin_cases a
    · rfl
    · refine Fin.ext ?_
      show 1024 * q + 1 * k.val = (1024 * ((128 * q + 1 * (x 1).val) / 128) + k.val) % 8192
      omega
  · funext a
    fin_cases a
    · refine Fin.ext ?_
      show 0 + 1 * k.val = k.val
      omega
    · refine Fin.ext ?_
      show 0 + 1 * (x 1).val = (128 * q + 1 * (x 1).val) % 128
      omega

end Tile

end Cert.KernelIdeal.Gen
-- ==== Proof.RunMask.lean ====
module

public import proofs.«01_k».proof.Proof.Cols

@[expose] public section
set_option maxRecDepth 8192
set_option maxHeartbeats 8000000

noncomputable section

/-! # The packed mask after the body -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

variable (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole)
  (x0 : Vec Ideal S128x8192 .bf16) (x1 : Vec Ideal S128x8192 .bf16) (x2 : Vec Ideal S128x8192 .i32) (x3 : Vec Ideal S1x8192 .f32) (x4 : Vec Ideal S1x8192 .f32) (x5 : Vec Ideal S1x8192 .f32) (x6 : Vec Ideal S1024x128 .bf16) (x7 : Vec Ideal S64x8192 .bf16)
  (f8 : BufTy.Contents (Elt Ideal) arg9.view.ty) (f9 : BufTy.Contents (Elt Ideal) arg10.view.ty) (f10 : BufTy.Contents (Elt Ideal) arg11.view.ty) (f11 : BufTy.Contents (Elt Ideal) arg12.view.ty) (f12 : BufTy.Contents (Elt Ideal) arg13.view.ty) (f13 : BufTy.Contents (Elt Ideal) arg14.view.ty)
  (fs0 : BufTy.Contents (Elt Ideal) arg15.view.ty) (fs1 : BufTy.Contents (Elt Ideal) arg16.view.ty) (fs2 : BufTy.Contents (Elt Ideal) arg17.view.ty) (fs3 : BufTy.Contents (Elt Ideal) arg18.view.ty)

/-- The packed mask after the body. -/
theorem run_mask : arg11.view.read (Elt Ideal) (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3).2.2.1 = oMask x2 x6 := by
  unfold bodyRun
  refine (Cols.read (G := maskC (arg16 := arg16) (arg7 := arg7) (patchC harg16 (mask01 (arg3.view.read (Elt Ideal) (harg3.unread x2))) fs1 (Scf.trips k0_t1_loop.lb k0_t1_loop.ub k0_t1_loop.st)) (harg7.unread x6)) ?_ arg11.view f10).trans ?_
  · refine Cols.cons _ _ rfl (fun x => mask_tile _ _ 7 (by decide) rfl rfl _ _ _ x) ?_
    refine Cols.cons _ _ rfl (fun x => mask_tile _ _ 6 (by decide) rfl rfl _ _ _ x) ?_
    refine Cols.cons _ _ rfl (fun x => mask_tile _ _ 5 (by decide) rfl rfl _ _ _ x) ?_
    refine Cols.cons _ _ rfl (fun x => mask_tile _ _ 4 (by decide) rfl rfl _ _ _ x) ?_
    refine Cols.cons _ _ rfl (fun x => mask_tile _ _ 3 (by decide) rfl rfl _ _ _ x) ?_
    refine Cols.cons _ _ rfl (fun x => mask_tile _ _ 2 (by decide) rfl rfl _ _ _ x) ?_
    refine Cols.cons _ _ rfl (fun x => mask_tile _ _ 1 (by decide) rfl rfl _ _ _ x) ?_
    refine Cols.cons _ _ rfl (fun x => mask_tile _ _ 0 (by decide) rfl rfl _ _ _ x) ?_
    exact Cols.nil _
  · funext z
    unfold maskC
    rw [read_patchC4 harg16 _ _ _ trips1, harg3.read_unread, harg7.read_unread]
    rfl

end Cert.KernelIdeal.Gen
-- ==== Proof.RunCode.lean ====
module

public import proofs.«01_k».proof.Proof.Cols

@[expose] public section
set_option maxRecDepth 8192
set_option maxHeartbeats 8000000

noncomputable section

/-! # The codes after the body -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

variable (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole)
  (x0 : Vec Ideal S128x8192 .bf16) (x1 : Vec Ideal S128x8192 .bf16) (x2 : Vec Ideal S128x8192 .i32) (x3 : Vec Ideal S1x8192 .f32) (x4 : Vec Ideal S1x8192 .f32) (x5 : Vec Ideal S1x8192 .f32) (x6 : Vec Ideal S1024x128 .bf16) (x7 : Vec Ideal S64x8192 .bf16)
  (f8 : BufTy.Contents (Elt Ideal) arg9.view.ty) (f9 : BufTy.Contents (Elt Ideal) arg10.view.ty) (f10 : BufTy.Contents (Elt Ideal) arg11.view.ty) (f11 : BufTy.Contents (Elt Ideal) arg12.view.ty) (f12 : BufTy.Contents (Elt Ideal) arg13.view.ty) (f13 : BufTy.Contents (Elt Ideal) arg14.view.ty)
  (fs0 : BufTy.Contents (Elt Ideal) arg15.view.ty) (fs1 : BufTy.Contents (Elt Ideal) arg16.view.ty) (fs2 : BufTy.Contents (Elt Ideal) arg17.view.ty) (fs3 : BufTy.Contents (Elt Ideal) arg18.view.ty)

/-- The codes after the body. -/
theorem run_code : arg9.view.read (Elt Ideal) (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3).1 = oCode x0 x1 x2 x3 x4 x5 x7 := by
  unfold bodyRun
  refine (Cols.read (G := codeC (c15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 fs0 fs2) (harg8.unread x7) (bodyRun.sl.r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 fs0 fs2 fs3)) ?_ arg9.view f8).trans ?_
  · iterate 64 refine Cols.cons _ _ (by rfl) (fun x => code_tile _ _ _ (by rfl) _ _ _ _ ⟨rfl, by decide⟩ x) ?_
    exact Cols.nil _
  · funext y
    unfold codeC bodyRun.sl.r_8
    rw [c15_eq, r7_eq, harg8.read_unread]
    rfl

end Cert.KernelIdeal.Gen
-- ==== Proof.Body.lean ====
module

public import proofs.«01_k».proof.Proof.RunMask
public import proofs.«01_k».proof.Proof.RunCode

@[expose] public section
set_option maxRecDepth 8192
set_option maxHeartbeats 4000000

noncomputable section

/-! # The body on one block

From the input blocks the body leaves the six output blocks as `Cert.Block` states them, the inputs untouched. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Cert.Bands Cert.Block

/-- The body's triple: every output memref ends at the block function of the inputs. -/
theorem body_triple (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .i32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S1024x128 .bf16) (harg7 : arg7.IsWhole) (arg8 : Memref sig .tc .vmem S64x8192 .bf16) (harg8 : arg8.IsWhole) (arg9 : Memref sig .tc .vmem S128x8192 .fp8e4m3) (harg9 : arg9.IsWhole) (arg10 : Memref sig .tc .vmem S128x64 .f32) (harg10 : arg10.IsWhole) (arg11 : Memref sig .tc .vmem S128x1024 .i8) (harg11 : arg11.IsWhole) (arg12 : Memref sig .tc .vmem S1x128 .f32) (harg12 : arg12.IsWhole) (arg13 : Memref sig .tc .vmem S1x128 .f32) (harg13 : arg13.IsWhole) (arg14 : Memref sig .tc .vmem S128x8192 .bf16) (harg14 : arg14.IsWhole) (arg15 : Memref sig .tc .vmem S128x8192 .f32) (harg15 : arg15.IsWhole) (arg16 : Memref sig .tc .vmem S128x8192 .bf16) (harg16 : arg16.IsWhole) (arg17 : Memref sig .tc .vmem S128x128 .f32) (harg17 : arg17.IsWhole) (arg18 : Memref sig .tc .vmem S128x64 .f32) (harg18 : arg18.IsWhole)
    (x0 : Vec Ideal S128x8192 .bf16) (x1 : Vec Ideal S128x8192 .bf16) (x2 : Vec Ideal S128x8192 .i32) (x3 : Vec Ideal S1x8192 .f32) (x4 : Vec Ideal S1x8192 .f32) (x5 : Vec Ideal S1x8192 .f32) (x6 : Vec Ideal S1024x128 .bf16) (x7 : Vec Ideal S64x8192 .bf16) :
      ∀ (E : Set ℕ) (K : PUnit → sProp 𝕄G),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (oCode x0 x1 x2 x3 x4 x5 x7) ∗ owns (c : Thread nD τ) arg10 fullShare (oScale x0 x1 x2 x3 x4 x5) ∗ owns (c : Thread nD τ) arg11 fullShare (oMask x2 x6) ∗ owns (c : Thread nD τ) arg12 fullShare (oMean x0 x1 x2 x3) ∗ owns (c : Thread nD τ) arg13 fullShare (oRstd x0 x1 x2 x3) ∗ owns (c : Thread nD τ) arg14 fullShare (hid x0 x1 x2 x3) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := Ideal)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  intro E K
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  iapply ((bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, ⟨%g0, HS0⟩, ⟨%g1, HS1⟩, ⟨%g2, HS2⟩, ⟨%g3, HS3⟩⟩
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact harg7.read_unread _
    · iexact H6
  isplitl [H7]
  · iexists _; isplitr
    · ipureintro; exact harg8.read_unread _
    · iexact H7
  isplitl [H8]
  · iexists _; isplitr
    · ipureintro; exact run_code c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3
    · iexact H8
  isplitl [H9]
  · iexists _; isplitr
    · ipureintro; exact run_scale c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3
    · iexact H9
  isplitl [H10]
  · iexists _; isplitr
    · ipureintro; exact run_mask c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3
    · iexact H10
  isplitl [H11]
  · iexists _; isplitr
    · ipureintro; exact run_mean c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3
    · iexact H11
  isplitl [H12]
  · iexists _; isplitr
    · ipureintro; exact run_rstd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3
    · iexact H12
  isplitl [H13]
  · iexists _; isplitr
    · ipureintro; exact run_hid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 f8 f9 f10 f11 f12 f13 fs0 fs1 fs2 fs3
    · iexact H13
  isplitl [HS0]
  · iexists (arg15.view.read (Elt Ideal) g0); iexists g0; isplitr
    · ipureintro; rfl
    · iexact HS0
  isplitl [HS1]
  · iexists (arg16.view.read (Elt Ideal) g1); iexists g1; isplitr
    · ipureintro; rfl
    · iexact HS1
  isplitl [HS2]
  · iexists (arg17.view.read (Elt Ideal) g2); iexists g2; isplitr
    · ipureintro; rfl
    · iexact HS2
  · iexists (arg18.view.read (Elt Ideal) g3); iexists g3; isplitr
    · ipureintro; rfl
    · iexact HS3

end Cert.KernelIdeal.Gen
-- ==== Proof.FrameI.lean ====
module

public import proofs.«01_k».proof.Proof.Body
public import proofs.«01_k».proof.Proof.Gen.KernelIdeal.Frame
public import Idealize.ShloMosaic.Lib.Claim

@[expose] public section

set_option maxRecDepth 16384

noncomputable section

/-! # The kernel's run at the exact values

The proof data of the pipeline, each output block at the block function of the input blocks; the body's obligation; the
launch; the frame. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Block

local notation "𝕄" => MT nD τ sig Unit (Elt Ideal) ℕ (UR sig nD τ) ℕ

abbrev ms0_0 (t : Fin cfg0.N) : Memref sig .tc .vmem S128x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x8192 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x8192 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x8192 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1024 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x8192 .bf16 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S128x8192 .f32 := Memref.whole cc0_scratch0
abbrev scM0_1 : Memref sig .tc .vmem S128x8192 .bf16 := Memref.whole cc0_scratch1
abbrev scM0_2 : Memref sig .tc .vmem S128x128 .f32 := Memref.whole cc0_scratch2
abbrev scM0_3 : Memref sig .tc .vmem S128x64 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (m : (ℓ : Loc nD τ sig) → Buf (Elt Ideal) ℓ) (ρ : Dev nD → PrngReg)

/-- The proof data of the one pipeline on core `c`: the arrays as the region finds them (`V`); after the body at
    point `t` each input's buffer at its block and each output at its block function; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oCode (iblk m c 0 t) (iblk m c 1 t) (iblk m c 2 t) (iblk m c 3 t) (iblk m c 4 t) (iblk m c 5 t) (iblk m c 7 t)
    | ⟨9, _⟩ => oScale (iblk m c 0 t) (iblk m c 1 t) (iblk m c 2 t) (iblk m c 3 t) (iblk m c 4 t) (iblk m c 5 t)
    | ⟨10, _⟩ => oMask (iblk m c 2 t) (iblk m c 6 t)
    | ⟨11, _⟩ => oMean (iblk m c 0 t) (iblk m c 1 t) (iblk m c 2 t) (iblk m c 3 t)
    | ⟨12, _⟩ => oRstd (iblk m c 0 t) (iblk m c 1 t) (iblk m c 2 t) (iblk m c 3 t)
    | ⟨13, _⟩ => hid (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = oCode (iblk m c 0 t) (iblk m c 1 t) (iblk m c 2 t) (iblk m c 3 t) (iblk m c 4 t) (iblk m c 5 t) (iblk m c 7 t) := by dsimp only [dats]
theorem after0_9 (c : Dev nD) (t : Fin cfg0.N) : (dats m 0 c).after 9 t = oScale (iblk m c 0 t) (iblk m c 1 t) (iblk m c 2 t) (iblk m c 3 t) (iblk m c 4 t) (iblk m c 5 t) := by dsimp only [dats]
theorem after0_10 (c : Dev nD) (t : Fin cfg0.N) : (dats m 0 c).after 10 t = oMask (iblk m c 2 t) (iblk m c 6 t) := by dsimp only [dats]
theorem after0_11 (c : Dev nD) (t : Fin cfg0.N) : (dats m 0 c).after 11 t = oMean (iblk m c 0 t) (iblk m c 1 t) (iblk m c 2 t) (iblk m c 3 t) := by dsimp only [dats]
theorem after0_12 (c : Dev nD) (t : Fin cfg0.N) : (dats m 0 c).after 12 t = oRstd (iblk m c 0 t) (iblk m c 1 t) (iblk m c 2 t) (iblk m c 3 t) := by dsimp only [dats]
theorem after0_13 (c : Dev nD) (t : Fin cfg0.N) : (dats m 0 c).after 13 t = hid (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((body_triple c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- the launch's implicit arguments are found by unifying its conclusion with this one, which takes unfolding plain
-- definitions in a metavariable's type
set_option backward.isDefEq.respectTransparency.types false in
/-- The launch: every execution ends with the arrays as the proof data states them and every counter at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same, the counters left out. -/
theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the argument arrays end unchanged and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Pack.lean ====
module

public import Idealize.ShloMosaic.Lib.IndicatorCount
public import Idealize.ShloMosaic.Lib.Pointwise

@[expose] public section

set_option maxRecDepth 8192

noncomputable section

/-! # Eight bits into a byte, by a sum of floats and by a sum of integers -/

namespace Cert.Pack

open Idealize.ShloMosaic Idealize.ShloMosaic.TcCoe

/-- The weight of bit `j` in the kernel's sum: a number a hair above `2 ^ j`. -/
def weight (j : ℕ) : EReal := Ideal.exp (Ideal.ofBits .f32 0x3F317218#32 * ((j : ℝ) : EReal))

/-- The weight as a real number. -/
def weightR (j : ℕ) : ℝ := Real.exp (11629080 / 2 ^ 24 * j)

theorem ln_eq : Ideal.ofBits .f32 0x3F317218#32 = ((11629080 / 2 ^ 24 : ℝ) : EReal) := by
  simp [Ideal.ofBits, Ideal.ieee, -EReal.coe_mul]; norm_num

theorem weight_eq (j : ℕ) : weight j = (weightR j : EReal) := by
  unfold weight weightR
  rw [ln_eq, ← EReal.coe_mul]
  rfl

/-- The base of the weights: two, up to a little above. -/
theorem base_bounds : (2 : ℝ) ≤ Real.exp (11629080 / 2 ^ 24) ∧ Real.exp (11629080 / 2 ^ 24) ≤ 2 + 1 / 10000 := by
  constructor
  · refine le_trans ?_ (Real.sum_le_exp_of_nonneg (by norm_num) 12)
    norm_num [Finset.sum_range_succ, Nat.factorial]
  · refine le_trans (Real.exp_bound' (by norm_num) (by norm_num) (n := 8) (by norm_num)) ?_
    norm_num [Finset.sum_range_succ, Nat.factorial]

/-- A weight is `2 ^ j`, up to a tenth. -/
theorem weightR_bounds (j : Fin 8) : (2 : ℝ) ^ j.val ≤ weightR j.val ∧ weightR j.val ≤ 2 ^ j.val + 1 / 10 := by
  obtain ⟨l0, l1⟩ := base_bounds
  have e : weightR j.val = Real.exp (11629080 / 2 ^ 24) ^ j.val := by
    unfold weightR
    rw [mul_comm, Real.exp_nat_mul]
  rw [e]
  refine ⟨pow_le_pow_left₀ (by norm_num) l0 _, le_trans (pow_le_pow_left₀ (by linarith) l1 _) ?_⟩
  fin_cases j <;> norm_num

/-- The byte as a number. -/
def byte (b : Fin 8 → BitVec 1) : ℕ := ∑ j, (b j).toNat * 2 ^ j.val

theorem byte_le (b : Fin 8 → BitVec 1) : byte b ≤ 255 := by
  have : byte b ≤ ∑ j : Fin 8, 1 * 2 ^ j.val :=
    Finset.sum_le_sum fun j _ => Nat.mul_le_mul_right _ (by have := (b j).isLt; omega)
  exact le_trans this (by decide)

theorem select_bit (w : BitVec 1) : (Scalar.select w (1 : EReal) 0) = ((w.toNat : ℝ) : EReal) := by
  rcases (by revert w; decide : w = 0#1 ∨ w = 1#1) with rfl | rfl
  · show (0 : EReal) = _; simp
  · show (1 : EReal) = _; simp

theorem coe_sum (f : Fin 8 → ℝ) : ∑ j, ((f j : ℝ) : EReal) = ((∑ j, f j : ℝ) : EReal) :=
  (map_sum (⟨⟨Real.toEReal, EReal.coe_zero⟩, EReal.coe_add⟩ : ℝ →+ EReal) f Finset.univ).symm

/-- The kernel's byte: the sum of the weights of the kept entries, cut to an integer. -/
theorem float_byte (b : Fin 8 → BitVec 1) :
    Ideal.fptosi 32 (∑ j : Fin 8, Scalar.select (b j) (1 : EReal) 0 * weight j.val) = BitVec.ofNat 32 (byte b) := by
  have s : ∑ j : Fin 8, Scalar.select (b j) (1 : EReal) 0 * weight j.val
      = ((∑ j : Fin 8, ((b j).toNat : ℝ) * weightR j.val : ℝ) : EReal) := by
    rw [← coe_sum]
    exact Finset.sum_congr rfl fun j _ => by rw [select_bit, weight_eq, EReal.coe_mul]
  have bit (j : Fin 8) : ((b j).toNat : ℝ) ≤ 1 := by exact_mod_cast (by have := (b j).isLt; omega : (b j).toNat ≤ 1)
  have lo : (byte b : ℝ) ≤ ∑ j : Fin 8, ((b j).toNat : ℝ) * weightR j.val := by
    unfold byte; push_cast
    exact Finset.sum_le_sum fun j _ => mul_le_mul_of_nonneg_left (weightR_bounds j).1 (by positivity)
  have hi : ∑ j : Fin 8, ((b j).toNat : ℝ) * weightR j.val < (byte b : ℝ) + 1 := by
    have : ∑ j : Fin 8, ((b j).toNat : ℝ) * weightR j.val ≤ ∑ j : Fin 8, (((b j).toNat : ℝ) * 2 ^ j.val + 1 / 10) := by
      refine Finset.sum_le_sum fun j _ => ?_
      have q := (weightR_bounds j).2
      have b0 : (0 : ℝ) ≤ (b j).toNat := by positivity
      have := bit j
      nlinarith
    rw [Finset.sum_add_distrib] at this
    have e : (byte b : ℝ) = ∑ j : Fin 8, ((b j).toNat : ℝ) * 2 ^ j.val := by unfold byte; push_cast; rfl
    rw [e]
    refine lt_of_le_of_lt this ?_
    simp; norm_num
  rw [s]
  unfold Ideal.fptosi
  rw [Ideal.toIntClamped_coe, if_pos (le_trans (by positivity) lo)]
  have fl : ⌊∑ j : Fin 8, ((b j).toNat : ℝ) * weightR j.val⌋ = (byte b : ℤ) := by
    rw [Int.floor_eq_iff]; exact ⟨by exact_mod_cast lo, by exact_mod_cast hi⟩
  have le := byte_le b
  rw [fl, ← BitVec.ofInt_natCast]
  congr 1
  norm_num
  omega

theorem fold_addi_ofNat {ι : Type*} (S : Finset ι) (f : ι → ℕ) :
    S.fold IntOp.addi 0#32 (fun k => BitVec.ofNat 32 (f k)) = BitVec.ofNat 32 (∑ k ∈ S, f k) := by
  classical
  induction S using Finset.induction_on with
  | empty => rfl
  | insert i S hi ih =>
    rw [Finset.fold_insert hi, Finset.sum_insert hi, ih, BitVec.ofNat_add]
    rfl

theorem shift_bit (w : BitVec 1) (j : Fin 8) :
    IntOp.shli .host (w.setWidth 32) (BitVec.ofNat 32 j.val) = BitVec.ofNat 32 (w.toNat * 2 ^ j.val) := by
  revert w j; decide +kernel

/-- The reference's byte: the sum of the shifted bits. -/
theorem int_byte (b : Fin 8 → BitVec 1) :
    Finset.univ.fold IntOp.addi 0#32 (fun j : Fin 8 => IntOp.shli .host ((b j).setWidth 32) (BitVec.ofNat 32 j.val))
      = BitVec.ofNat 32 (byte b) := by
  simp only [shift_bit]
  exact fold_addi_ofNat _ _

/-- A sum against one group of eight weights picks that group out. -/
theorem sum_group (w : Fin 1024 → EReal) (l : Fin 128) :
    ∑ k : Fin 1024, w k * (if k.val / 8 = l.val then weight (k.val % 8) else 0)
      = ∑ j : Fin 8, w ⟨8 * l.val + j.val, by omega⟩ * weight j.val := by
  have e : ∑ k : Fin 1024, w k * (if k.val / 8 = l.val then weight (k.val % 8) else 0)
      = ∑ p : Fin 128 × Fin 8, w ⟨8 * p.1.val + p.2.val, by omega⟩ * (if p.1 = l then weight p.2.val else 0) := by
    refine (Equiv.sum_comp (finProdFinEquiv : Fin 128 × Fin 8 ≃ Fin 1024) _).symm.trans (Finset.sum_congr rfl fun p _ => ?_)
    have v : ((finProdFinEquiv : Fin 128 × Fin 8 ≃ Fin 1024) p).val = p.2.val + 8 * p.1.val := rfl
    have e1 : (finProdFinEquiv : Fin 128 × Fin 8 ≃ Fin 1024) p = ⟨8 * p.1.val + p.2.val, by omega⟩ := Fin.ext (by rw [v]; show p.2.val + 8 * p.1.val = 8 * p.1.val + p.2.val; omega)
    rw [e1]
    have e2 : (8 * p.1.val + p.2.val) / 8 = p.1.val := by omega
    have e3 : (8 * p.1.val + p.2.val) % 8 = p.2.val := by omega
    simp only [e2, e3, Fin.ext_iff]
  rw [e, Fintype.sum_prod_type, Finset.sum_eq_single l]
  · simp
  · intro i _ hi; simp [hi]
  · intro h; exact absurd (Finset.mem_univ l) h

/-- A sum against a one-hot row picks one entry out. -/
theorem sum_onehot (v : Fin 64 → EReal) (i : ℕ) (h : i < 64) :
    ∑ j : Fin 64, v j * (if i = j.val then (1 : EReal) else 0) = v ⟨i, h⟩ := by
  rw [Finset.sum_eq_single ⟨i, h⟩]
  · simp
  · intro j _ hj
    rw [if_neg (fun q => hj (Fin.ext q.symm)), mul_zero]
  · intro h; exact absurd (Finset.mem_univ _) h

end Cert.Pack
-- ==== Proof.Inputs.lean ====
module

public import proofs.«01_k».proof.Proof.FrameI
public import proofs.«01_k».proof.Proof.Pack
public import Idealize.ShloMosaic.Lib.Claim
public import Idealize.ShloMosaic.Lib.Pipeline.ValueKit
public import Idealize.ShloMosaic.Lib.Pointwise

@[expose] public section

set_option maxRecDepth 16384
set_option maxHeartbeats 4000000

noncomputable section

/-! # The operands as the kernel finds them -/

namespace Cert.Inputs

open Idealize.ShloMosaic Idealize.ShloMosaic.TcCoe Cert.KernelIdeal Cert.KernelIdeal.Gen Cert.Block

variable (m : (ℓ : Loc nD τ sig) → Buf (Elt Ideal) ℓ) (c : Dev nD)

/-- The input, its leading axis of length one gone. -/
theorem V_main_v0 (R : Fin 2048) (k : Fin 8192) : V m c main_v0 (ix2 R k) = m ((c : Thread nD τ).loc main_arg0) (ix3 0 R k) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The activation, its leading axis gone. -/
theorem V_main_v1 (R : Fin 2048) (k : Fin 8192) : V m c main_v1 (ix2 R k) = m ((c : Thread nD τ).loc main_arg1) (ix3 0 R k) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The random bits, their leading axis gone. -/
theorem V_main_v2 (R : Fin 2048) (k : Fin 8192) : V m c main_v2 (ix2 R k) = m ((c : Thread nD τ).loc main_arg3) (ix3 0 R k) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The bias as one row. -/
theorem V_main_v3 (k : Fin 8192) : V m c main_v3 (ix2 0 k) = m ((c : Thread nD τ).loc main_arg2) (ix1 k) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The gain as one row. -/
theorem V_main_v4 (k : Fin 8192) : V m c main_v4 (ix2 0 k) = m ((c : Thread nD τ).loc main_arg4) (ix1 k) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The offset as one row. -/
theorem V_main_v5 (k : Fin 8192) : V m c main_v5 (ix2 0 k) = m ((c : Thread nD τ).loc main_arg5) (ix1 k) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- Floored division of a small number, as the host spells it. -/
def quot (k d : BitVec 32) : BitVec 32 :=
  Scalar.select (IntOp.andi (IntOp.cmpi .ne (if k = 0 then 0 else if k.msb = true then -1 else 1 : BitVec 32) (if d = 0 then 0 else if d.msb = true then -1 else 1))
      (IntOp.cmpi .ne (IntOp.remsi ArithUnit.host k d) 0#32))
    (IntOp.subi (IntOp.divsi ArithUnit.host k d) 1#32) (IntOp.divsi ArithUnit.host k d)

theorem quot_128 : ∀ k : Fin 8192, quot (BitVec.ofNat 32 k.val) 128#32 = BitVec.ofNat 32 (k.val / 128) := by decide +kernel

theorem quot_8 : ∀ k : Fin 1024, quot (BitVec.ofNat 32 k.val) 8#32 = BitVec.ofNat 32 (k.val / 8) := by decide +kernel

/-- Floored remainder of a small number, as the host spells it. -/
def modulo (k e : BitVec 32) : BitVec 32 :=
  Scalar.select (IntOp.andi (IntOp.cmpi .ne (IntOp.cmpi .slt (IntOp.remsi ArithUnit.host k (Scalar.select (IntOp.cmpi .eq e 0#32) 1#32 e)) 0#32)
        (IntOp.cmpi .slt (Scalar.select (IntOp.cmpi .eq e 0#32) 1#32 e) 0#32))
      (IntOp.cmpi .ne (IntOp.remsi ArithUnit.host k (Scalar.select (IntOp.cmpi .eq e 0#32) 1#32 e)) 0#32))
    (IntOp.addi (IntOp.remsi ArithUnit.host k (Scalar.select (IntOp.cmpi .eq e 0#32) 1#32 e)) (Scalar.select (IntOp.cmpi .eq e 0#32) 1#32 e))
    (IntOp.remsi ArithUnit.host k (Scalar.select (IntOp.cmpi .eq e 0#32) 1#32 e))

theorem modulo_8 : ∀ k : Fin 1024, modulo (BitVec.ofNat 32 k.val) 8#32 = BitVec.ofNat 32 (k.val % 8) := by decide +kernel

theorem eq_small (a b : ℕ) (ha : a < 2 ^ 32) (hb : b < 2 ^ 32) :
    IntOp.cmpi .eq (BitVec.ofNat 32 a) (BitVec.ofNat 32 b) = if a = b then 1#1 else 0#1 := by
  unfold IntOp.cmpi
  by_cases q : a = b
  · subst q; simp
  · have : BitVec.ofNat 32 a ≠ BitVec.ofNat 32 b := fun h => q (by
      have h := congrArg BitVec.toNat h
      rw [BitVec.toNat_ofNat, BitVec.toNat_ofNat, Nat.mod_eq_of_lt ha, Nat.mod_eq_of_lt hb] at h
      exact h)
    rw [if_neg q]
    show BitVec.ofBool (BitVec.ofNat 32 a == BitVec.ofNat 32 b) = 0#1
    rw [beq_eq_false_iff_ne.mpr this]
    rfl

/-- The matrix that spreads the reciprocal scales over their blocks. -/
theorem V_main_v30 (j : Fin 64) (k : Fin 8192) : V m c main_v30 (ix2 j k) = if k.val / 128 = j.val then (1 : EReal) else 0 := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf]
  simp only [StableHlo.TRef.ofBuf, StableHlo.TRef.toBuf, cast_eq]
  pointwise []
  refine Eq.trans (congrArg (fun q => FloatOps.uitofp (F := Ideal) .bf16 (IntOp.cmpi .eq q (BitVec.ofNat 32 j.val))) (quot_128 k)) ?_
  rw [eq_small _ _ (by omega) (by omega)]
  split
  · show ((((1#1).toNat : ℝ)) : EReal) = 1; simp
  · show ((((0#1).toNat : ℝ)) : EReal) = 0; simp

/-- The matrix that packs eight entries of the mask into one. -/
theorem V_main_v21 (k : Fin 1024) (l : Fin 128) : V m c main_v21 (ix2 k l) = if k.val / 8 = l.val then Pack.weight (k.val % 8) else 0 := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf]
  simp only [StableHlo.TRef.ofBuf, StableHlo.TRef.toBuf, cast_eq]
  pointwise []
  refine Eq.trans (congrArg₂ (fun q s => Scalar.select (IntOp.cmpi .eq q (BitVec.ofNat 32 l.val))
    (Ideal.exp (Ideal.ofBits .f32 1060205080#32 * FloatOps.sitofp (F := Ideal) .f32 s)) 0) (quot_8 k) (modulo_8 k)) ?_
  rw [eq_small _ _ (by omega) (by omega)]
  have : FloatOps.sitofp (F := Ideal) .f32 (BitVec.ofNat 32 (k.val % 8)) = (((k.val % 8 : ℕ) : ℝ) : EReal) := by
    show (((BitVec.ofNat 32 (k.val % 8)).toInt : ℝ) : EReal) = _
    have : ∀ i : Fin 8, (BitVec.ofNat 32 i.val).toInt = (i.val : ℤ) := by decide
    rw [this ⟨k.val % 8, Nat.mod_lt _ (by decide)⟩]
    exact congrArg (fun r : ℝ => (r : EReal)) (Int.cast_natCast _)
  rw [this]
  split <;> rfl

end Cert.Inputs
-- ==== Proof.Rows1.lean ====
module

public import proofs.«01_k».proof.Proof.Outs
public import Idealize.ShloMosaic.Lib.Pipeline.ValueKit
public import Idealize.ShloMosaic.Lib.Pointwise

@[expose] public section

set_option maxRecDepth 8192

noncomputable section

/-! # The statistics of one row -/

namespace Cert.Rows

open Idealize.ShloMosaic Idealize.ShloMosaic.TcCoe Cert.KernelIdeal Cert.KernelIdeal.Gen Cert.Block

/-- The number of entries of a row, as the reference divides by it. -/
def len : EReal := Ideal.ofBits .f32 0x46000000#32

/-- The mean of a row. -/
def mean (h : Fin 8192 → EReal) : EReal := Ideal.div (∑ k, h k) len

/-- A row less its mean. -/
def cenR (h : Fin 8192 → EReal) (k : Fin 8192) : EReal := h k - mean h

/-- The reciprocal standard deviation of a row. -/
def rstdR (h : Fin 8192 → EReal) : EReal :=
  Ideal.rsqrt (Ideal.div (∑ k, cenR h k * cenR h k) len + Ideal.ofBits .f32 0x3727C5AC#32)

/-- A normalised row. -/
def normR (h g b : Fin 8192 → EReal) (k : Fin 8192) : EReal := cenR h k * rstdR h * g k + b k

/-- The largest magnitude in block `j` of a normalised row. -/
def amaxR (h g b : Fin 8192 → EReal) (j : Fin 64) : EReal :=
  Finset.univ.fold max (Ideal.ofBits .f32 0xFF800000#32) fun l : Fin 128 =>
    FloatOps.absf (F := Ideal) (φ := .f32) (normR h g b ⟨128 * j.val + l.val, by omega⟩)

theorem len_eq : len = ((8192 : ℝ) : EReal) := by
  unfold len
  simp [Ideal.ofBits, Ideal.ieee, -EReal.coe_mul]; norm_num

theorem inv_eq : Ideal.ofBits .f32 956301312#32 = (((1 : ℝ) / 8192 : ℝ) : EReal) := by
  simp [Ideal.ofBits, Ideal.ieee, -EReal.coe_mul]; norm_num

/-- Multiplying by the reciprocal of the length is dividing by the length. -/
theorem mul_inv_len (s : EReal) : s * Ideal.ofBits .f32 956301312#32 = Ideal.div s len := by
  rw [len_eq, inv_eq, Ideal.div_coe (by norm_num)]

theorem oMean_at (A : FVec Ideal S128x128 .f32) (l : Fin 128) :
    k0_pay775 (F := Ideal) A (ix2 (0 : Fin 1) l) = Ideal.div (∑ x : Fin 128, A (ix2 l x)) len := by
  rw [← mul_inv_len]
  pointwise [k0_pay775, k0_pay774]

theorem meanS_at (A : FVec Ideal S128x128 .f32) (z : S128x128.Idx) :
    k0_pay776 (F := Ideal) A z = Ideal.div (∑ x : Fin 128, A (ix2 (show Fin 128 from z 0) x)) len := by
  rw [← mul_inv_len]
  pointwise [k0_pay776, k0_pay774]

theorem oRstd_at (A : FVec Ideal S128x128 .f32) (l : Fin 128) :
    k0_pay779 (F := Ideal) A (ix2 (0 : Fin 1) l)
      = Ideal.rsqrt (Ideal.div (∑ x : Fin 128, A (ix2 l x)) len + Ideal.ofBits .f32 0x3727C5AC#32) := by
  rw [← mul_inv_len]
  pointwise [k0_pay779, k0_pay778]

theorem rstdS_at (A : FVec Ideal S128x128 .f32) (z : S128x128.Idx) :
    k0_pay781 (F := Ideal) (k0_pay780 (F := Ideal) A) z
      = Ideal.rsqrt (Ideal.div (∑ x : Fin 128, A (ix2 (show Fin 128 from z 0) x)) len + Ideal.ofBits .f32 0x3727C5AC#32) := by
  rw [← mul_inv_len]
  pointwise [k0_pay780, k0_pay781, k0_pay778]

/-- The lane sums of a row add up to the sum of the row. -/
theorem sum_stat (g : S128x8192.Idx → EReal) (r : Fin 128) :
    ∑ x : Fin 128, stat g (ix2 r x) = ∑ k : Fin 8192, g (ix2 r k) := by
  have e : ∀ x : Fin 128, stat g (ix2 r x) = ∑ b : Fin 64, g (ix2 r ⟨128 * b.val + x.val, by omega⟩) := fun x => by
    show laneSum g 64 r x = _
    unfold laneSum
    rw [Finset.sum_range]
    refine Finset.sum_congr rfl fun b _ => ?_
    unfold col
    congr 2
    exact Fin.ext (Nat.mod_eq_of_lt (by omega))
  rw [Finset.sum_congr rfl fun x _ => e x, Finset.sum_comm]
  exact Fin.sum_mul_add_congr (S := 64) (n := 128) (L := 8192) fun b x hl => by
    congr 2; exact Fin.ext (by show 128 * b.val + x.val = b.val * 128 + x.val; ring)

end Cert.Rows
-- ==== Proof.Rows2.lean ====
module

public import proofs.«01_k».proof.Proof.Rows1

@[expose] public section

set_option maxRecDepth 8192

noncomputable section

/-! # The block's outputs, row by row -/

namespace Cert.Rows

open Idealize.ShloMosaic Idealize.ShloMosaic.TcCoe Cert.KernelIdeal Cert.KernelIdeal.Gen Cert.Block

variable (x a : S128x8192.Idx → EReal) (rr : S128x8192.Idx → BitVec 32) (b ga be : S1x8192.Idx → EReal)

/-- Row `r` of the residual stream of a block. -/
def rowOf (r : Fin 128) (k : Fin 8192) : EReal := hid x a rr b (ix2 r k)

/-- A column vector stored as one row. -/
def vecOf (v : S1x8192.Idx → EReal) (k : Fin 8192) : EReal := v (ix2 (0 : Fin 1) k)

theorem oMean_row (l : Fin 128) : oMean x a rr b (ix2 (0 : Fin 1) l) = mean (rowOf x a rr b l) := by
  unfold oMean mean rowOf
  rw [oMean_at, sum_stat]

theorem meanS_row (r : Fin 128) (c : Fin 128) : meanS x a rr b (ix2 r c) = mean (rowOf x a rr b r) := by
  unfold meanS mean rowOf
  rw [meanS_at]
  exact congrArg (Ideal.div · len) (sum_stat _ r)

theorem cenB_row (r : Fin 128) (k : Fin 8192) : cenB x a rr b (ix2 r k) = cenR (rowOf x a rr b r) k :=
  congrArg (hid x a rr b (ix2 r k) - ·) (meanS_row x a rr b r _)

theorem sqS_row (r : Fin 128) : ∑ c : Fin 128, sqS x a rr b (ix2 r c)
    = ∑ k, cenR (rowOf x a rr b r) k * cenR (rowOf x a rr b r) k := by
  unfold sqS
  rw [sum_stat]
  refine Finset.sum_congr rfl fun k _ => ?_
  unfold Block.sq
  rw [cenB_row]

theorem oRstd_row (l : Fin 128) : oRstd x a rr b (ix2 (0 : Fin 1) l) = rstdR (rowOf x a rr b l) := by
  unfold oRstd rstdR
  rw [oRstd_at, sqS_row]

theorem rstdS_row (r c : Fin 128) : rstdS x a rr b (ix2 r c) = rstdR (rowOf x a rr b r) := by
  unfold rstdS rstdR
  rw [rstdS_at]
  exact congrArg (fun s => Ideal.rsqrt (Ideal.div s len + _)) (sqS_row x a rr b r)

theorem normB_row (r : Fin 128) (k : Fin 8192) :
    normB x a rr b ga be (ix2 r k) = normR (rowOf x a rr b r) (vecOf ga) (vecOf be) k := by
  unfold normR
  rw [← cenB_row, ← rstdS_row x a rr b r (⟨k.val % 128, Nat.mod_lt _ (by decide)⟩ : Fin 128)]
  rfl

theorem amax_row (r : Fin 128) (j : Fin 64) :
    amax (normB x a rr b ga be) (ix2 r j) = amaxR (rowOf x a rr b r) (vecOf ga) (vecOf be) j := by
  unfold amax amaxR
  refine congrArg (Finset.fold max (Ideal.ofBits .f32 0xFF800000#32) · Finset.univ) (funext fun l => ?_)
  rw [← normB_row]
  refine congrArg (fun y => FloatOps.absf (F := Ideal) (φ := .f32) (normB x a rr b ga be y)) ?_
  exact congrArg (ix2 r) (Fin.ext (Nat.mod_eq_of_lt (by have := j.isLt; have := l.isLt; show 128 * j.val + l.val < 8192; omega)))

/-- A magnitude is not negative, nor is the largest of a block. -/
theorem amaxR_nonneg (h g c : Fin 8192 → EReal) (j : Fin 64) : 0 ≤ amaxR h g c j := by
  unfold amaxR
  rw [Finset.le_fold_max]
  refine Or.inr ⟨0, Finset.mem_univ _, ?_⟩
  show (0 : EReal) ≤ max _ (-_)
  rcases le_total 0 (normR h g c ⟨128 * j.val + (0 : Fin 128).val, by omega⟩) with q | q
  · exact le_max_of_le_left q
  · exact le_max_of_le_right (by simpa using EReal.neg_le_neg_iff.mpr q)

end Cert.Rows
-- ==== Proof.Expo.lean ====
module

public import proofs.«01_k».proof.Proof.Outs

@[expose] public section

set_option maxRecDepth 8192

noncomputable section

/-! # The exponent that the kernel's halving search finds -/

namespace Cert.Expo

open Idealize.ShloMosaic Idealize.ShloMosaic.TcCoe Cert.KernelIdeal Cert.KernelIdeal.Gen Cert.Block

theorem fields (n : Fin 256) :
    ((BitVec.ofNat 32 n.val <<< 23).extractLsb' (8 + 23) 1 == 1#1) = false
      ∧ ((BitVec.ofNat 32 n.val <<< 23).extractLsb' 23 8).toNat = n.val
      ∧ ((BitVec.ofNat 32 n.val <<< 23).extractLsb' 0 23).toNat = 0 := by
  revert n; decide +kernel

/-- The float with exponent field `n` and no fraction is a power of two. -/
theorem ofBits_two (n : ℕ) (h0 : 0 < n) (h1 : n < 255) :
    Ideal.ofBits .f32 (BitVec.ofNat 32 n <<< 23) = (((2 : ℝ) ^ ((n : ℤ) - 127) : ℝ) : EReal) := by
  obtain ⟨f1, f2, f3⟩ := fields ⟨n, by omega⟩
  show Ideal.ieee 8 23 _ = _
  unfold Ideal.ieee
  simp only [f1, f2, f3]
  rw [if_neg (by omega), if_neg (by omega)]
  refine congrArg (fun r : ℝ => (r : EReal)) ?_
  have : ((n : ℤ) - (2 ^ (8 - 1) - 1) - ((23 : ℕ) : ℤ)) = ((n : ℤ) - 127) + (-23) := by norm_num; ring
  rw [this, zpow_add₀ (by norm_num)]
  norm_num
  ring

/-- The same, from the exponent. -/
theorem ofBits_pow (b : BitVec 32) (z : ℤ) (h0 : -126 ≤ z) (h1 : z ≤ 127) (hb : b = BitVec.ofNat 32 (z + 127).toNat <<< 23) :
    Ideal.ofBits .f32 b = (((2 : ℝ) ^ z : ℝ) : EReal) := by
  rw [hb, ofBits_two _ (by omega) (by omega)]
  congr 2; omega

/-- One step up: at or above the threshold, count `k` and divide. -/
def upP (th k inv : BitVec 32) (p : BitVec 32 × EReal) : BitVec 32 × EReal :=
  (Scalar.select (Ideal.cmp .olt p.2 (Ideal.ofBits .f32 th)) p.1 (IntOp.addi p.1 k),
   Scalar.select (Ideal.cmp .olt p.2 (Ideal.ofBits .f32 th)) p.2 (p.2 * Ideal.ofBits .f32 inv))

/-- One step down: below the threshold, discount `k` and multiply. -/
def downP (th k inv : BitVec 32) (p : BitVec 32 × EReal) : BitVec 32 × EReal :=
  (Scalar.select (Ideal.cmp .olt p.2 (Ideal.ofBits .f32 th)) (IntOp.subi p.1 k) p.1,
   Scalar.select (Ideal.cmp .olt p.2 (Ideal.ofBits .f32 th)) (p.2 * Ideal.ofBits .f32 inv) p.2)

/-- The first steps up. -/
def up3 (t : EReal) : BitVec 32 × EReal :=
  upP 0x47800000#32 16#32 0x37800000#32 (upP 0x4F800000#32 32#32 0x2F800000#32 (upP 0x5F800000#32 64#32 0x1F800000#32 (0#32, t)))

/-- The other steps up. -/
def up7 (p : BitVec 32 × EReal) : BitVec 32 × EReal :=
  upP 0x40000000#32 1#32 0x3F000000#32 (upP 0x40800000#32 2#32 0x3E800000#32 (upP 0x41800000#32 4#32 0x3D800000#32
    (upP 0x43800000#32 8#32 0x3B800000#32 p)))

/-- The first steps down. -/
def down2 (p : BitVec 32 × EReal) : BitVec 32 × EReal :=
  downP 0x30000000#32 32#32 0x4F800000#32 (downP 0x20000000#32 64#32 0x5F800000#32 p)

/-- The other steps down. -/
def down7 (p : BitVec 32 × EReal) : BitVec 32 × EReal :=
  downP 0x3F800000#32 1#32 0x40000000#32 (downP 0x3F000000#32 2#32 0x40800000#32 (downP 0x3E000000#32 4#32 0x41800000#32
    (downP 0x3C000000#32 8#32 0x43800000#32 (downP 0x38000000#32 16#32 0x47800000#32 p))))

/-- The exponent field found for the block maximum `a`. -/
def fieldOf (a : EReal) : BitVec 32 :=
  Scalar.select (Ideal.cmp .ole a (Ideal.ofBits .f32 0x7F7FFFFF#32))
    (IntOp.addi (down7 (down2 (up7 (up3 (a * Ideal.ofBits .f32 0x3B124925#32))))).1 127#32) 255#32

theorem at_up3 (A : FVec Ideal S128x64 .f32) (z : S128x64.Idx) :
    (k0_pay790 (F := Ideal) A z, k0_pay791 (F := Ideal) A z) = up3 (A z * Ideal.ofBits .f32 0x3B124925#32) := rfl

theorem up8_at (n : IVec S128x64 32) (t : FVec Ideal S128x64 .f32) (z : S128x64.Idx) (c : IVec S128x64 1)
    (hc : c z = Ideal.cmp .olt (t z) (Ideal.ofBits .f32 0x43800000#32)) :
    upP 0x43800000#32 8#32 0x3B800000#32 (n z, t z) = (Scalar.select (c z) (n z) (IntOp.addi (n z) 8#32), k0_pay794 (F := Ideal) t c z) := by
  unfold upP; simp only [← hc]; rfl

theorem up4_at (a : BitVec 32) (t : FVec Ideal S128x64 .f32) (c : IVec S128x64 1) (z : S128x64.Idx) :
    upP 0x41800000#32 4#32 0x3D800000#32 (a, k0_pay794 (F := Ideal) t c z)
      = (Scalar.select (k0_pay795 (F := Ideal) t c z) a (IntOp.addi a 4#32), k0_pay796 (F := Ideal) t c z) := by
  unfold k0_pay796 k0_pay795
  generalize k0_pay794 (F := Ideal) t c = u
  rfl

theorem up2_at (a : BitVec 32) (t : FVec Ideal S128x64 .f32) (c : IVec S128x64 1) (z : S128x64.Idx) :
    upP 0x40800000#32 2#32 0x3E800000#32 (a, k0_pay796 (F := Ideal) t c z)
      = (Scalar.select (k0_pay797 (F := Ideal) t c z) a (IntOp.addi a 2#32), k0_pay798 (F := Ideal) t c z) := by
  unfold k0_pay798 k0_pay797
  generalize k0_pay796 (F := Ideal) t c = u
  rfl

theorem up1_at (a : BitVec 32) (t : FVec Ideal S128x64 .f32) (c : IVec S128x64 1) (z : S128x64.Idx) :
    upP 0x40000000#32 1#32 0x3F000000#32 (a, k0_pay798 (F := Ideal) t c z)
      = (Scalar.select (k0_pay799 (F := Ideal) t c z) a (IntOp.addi a 1#32), k0_pay800 (F := Ideal) t c z) := by
  unfold k0_pay800 k0_pay799
  generalize k0_pay798 (F := Ideal) t c = u
  rfl

theorem down64_at (a : BitVec 32) (t : FVec Ideal S128x64 .f32) (c : IVec S128x64 1) (z : S128x64.Idx) :
    downP 0x20000000#32 64#32 0x5F800000#32 (a, k0_pay800 (F := Ideal) t c z)
      = (Scalar.select (k0_pay801 (F := Ideal) t c z) (IntOp.subi a 64#32) a, k0_pay802 (F := Ideal) t c z) := by
  unfold k0_pay802 k0_pay801
  generalize k0_pay800 (F := Ideal) t c = u
  rfl

theorem down32_at (a : BitVec 32) (t : FVec Ideal S128x64 .f32) (c : IVec S128x64 1) (z : S128x64.Idx) :
    downP 0x30000000#32 32#32 0x4F800000#32 (a, k0_pay802 (F := Ideal) t c z)
      = (Scalar.select (k0_pay803 (F := Ideal) t c z) (IntOp.subi a 32#32) a, k0_pay805 (F := Ideal) t c z) := by
  unfold k0_pay805 k0_pay803
  generalize k0_pay802 (F := Ideal) t c = u
  rfl

theorem pay804_at (n n' : IVec S128x64 32) (t : FVec Ideal S128x64 .f32) (c : IVec S128x64 1) (z : S128x64.Idx) :
    k0_pay804 (F := Ideal) n t c n' z = (
      let a := Scalar.select (c z) (n z) (n' z)
      let a := Scalar.select (k0_pay795 (F := Ideal) t c z) a (IntOp.addi a 4#32)
      let a := Scalar.select (k0_pay797 (F := Ideal) t c z) a (IntOp.addi a 2#32)
      let a := Scalar.select (k0_pay799 (F := Ideal) t c z) a (IntOp.addi a 1#32)
      let a := Scalar.select (k0_pay801 (F := Ideal) t c z) (IntOp.subi a 64#32) a
      Scalar.select (k0_pay803 (F := Ideal) t c z) (IntOp.subi a 32#32) a) := by
  unfold k0_pay804
  generalize k0_pay795 (F := Ideal) t c = c1
  generalize k0_pay797 (F := Ideal) t c = c2
  generalize k0_pay799 (F := Ideal) t c = c3
  generalize k0_pay801 (F := Ideal) t c = c4
  generalize k0_pay803 (F := Ideal) t c = c5
  rfl

theorem at_mid (n n' : IVec S128x64 32) (t : FVec Ideal S128x64 .f32) (c : IVec S128x64 1) (z : S128x64.Idx)
    (hc : c z = Ideal.cmp .olt (t z) (Ideal.ofBits .f32 0x43800000#32)) (hn : n' z = IntOp.addi (n z) 8#32) :
    (k0_pay804 (F := Ideal) n t c n' z, k0_pay805 (F := Ideal) t c z) = down2 (up7 (n z, t z)) := by
  unfold down2 up7
  rw [up8_at n t z c hc, ← hn, up4_at, up2_at, up1_at, down64_at, down32_at]
  rw [pay804_at]

theorem down_at (th k inv : BitVec 32) (a : BitVec 32) (b : EReal) :
    downP th k inv (a, b) = (Scalar.select (Ideal.cmp .olt b (Ideal.ofBits .f32 th)) (IntOp.subi a k) a,
      Scalar.select (Ideal.cmp .olt b (Ideal.ofBits .f32 th)) (b * Ideal.ofBits .f32 inv) b) := rfl

theorem at_end (A : FVec Ideal S128x64 .f32) (n : IVec S128x64 32) (t : FVec Ideal S128x64 .f32) (z : S128x64.Idx) :
    k0_pay806 (F := Ideal) A n t z = Scalar.select (Ideal.cmp .ole (A z) (Ideal.ofBits .f32 0x7F7FFFFF#32))
      (IntOp.addi (down7 (n z, t z)).1 127#32) 255#32 := by
  unfold down7
  rw [down_at, down_at, down_at, down_at, down_at]
  rfl

/-- The search, point by point. -/
theorem field_at (A : FVec Ideal S128x64 .f32) (z : S128x64.Idx) : field A z = fieldOf (A z) := by
  unfold field fieldOf
  rw [at_end, at_mid _ _ _ _ _ rfl rfl, at_up3]

/-- `p` holds the exponent `N` and the quotient `t / 2 ^ N`. -/
def At (t : ℝ) (N : ℤ) (p : BitVec 32 × EReal) : Prop :=
  p = (BitVec.ofInt 32 N, ((t * (2 : ℝ) ^ (-N) : ℝ) : EReal))

theorem sel_lt {α : Type} (x y : ℝ) (a b : α) : Scalar.select (Ideal.cmp .olt (x : EReal) (y : EReal)) a b = if x < y then a else b := by
  unfold Scalar.select Ideal.cmp
  by_cases h : x < y <;> simp [h]

theorem shift (t : ℝ) (N s : ℤ) : t * (2 : ℝ) ^ (-N) * (2 : ℝ) ^ (-s) = t * (2 : ℝ) ^ (-(N + s)) := by
  rw [mul_assoc, ← zpow_add₀ (by norm_num)]; congr 2; ring

/-- A step up halves the range. -/
theorem up_step {t : ℝ} {p : BitVec 32 × EReal} (s m : ℤ) (th k inv : BitVec 32)
    (hth : Ideal.ofBits .f32 th = (((2 : ℝ) ^ s : ℝ) : EReal)) (hinv : Ideal.ofBits .f32 inv = (((2 : ℝ) ^ (-s) : ℝ) : EReal))
    (hk : k = BitVec.ofInt 32 s) (hs : 0 ≤ s)
    (h : ∃ N, At t N p ∧ 0 ≤ N ∧ N ≤ m ∧ t * (2 : ℝ) ^ (-N) < 2 ^ (2 * s) ∧ (N = 0 ∨ 1 ≤ t * (2 : ℝ) ^ (-N))) :
    ∃ N, At t N (upP th k inv p) ∧ 0 ≤ N ∧ N ≤ m + s ∧ t * (2 : ℝ) ^ (-N) < 2 ^ s ∧ (N = 0 ∨ 1 ≤ t * (2 : ℝ) ^ (-N)) := by
  obtain ⟨N, rfl, h0, h1, h2, h3⟩ := h
  unfold upP At
  simp only [hth, hinv, sel_lt]
  by_cases c : t * (2 : ℝ) ^ (-N) < 2 ^ s
  · exact ⟨N, by simp only [if_pos c], h0, by omega, c, h3⟩
  · refine ⟨N + s, ?_, by omega, by omega, ?_, Or.inr ?_⟩
    · simp only [if_neg c]
      rw [← EReal.coe_mul, shift]
      refine Prod.ext ?_ rfl
      show BitVec.ofInt 32 N + k = _
      rw [hk, BitVec.ofInt_add]
    · rw [← shift]
      have : (2 : ℝ) ^ s = 2 ^ (2 * s) * 2 ^ (-s) := by rw [← zpow_add₀ (by norm_num)]; congr 1; ring
      rw [this]
      exact mul_lt_mul_of_pos_right h2 (by positivity)
    · rw [← shift]
      have : (1 : ℝ) = 2 ^ s * 2 ^ (-s) := by rw [← zpow_add₀ (by norm_num)]; simp
      rw [this]
      exact mul_le_mul_of_nonneg_right (not_lt.mp c) (by positivity)

/-- A step down halves what is missing. -/
theorem down_step {t : ℝ} {p : BitVec 32 × EReal} (s m : ℤ) (th k inv : BitVec 32)
    (hth : Ideal.ofBits .f32 th = (((2 : ℝ) ^ (1 - s) : ℝ) : EReal)) (hinv : Ideal.ofBits .f32 inv = (((2 : ℝ) ^ s : ℝ) : EReal))
    (hk : k = BitVec.ofInt 32 s) (hs : 0 ≤ s)
    (h : ∃ N, At t N p ∧ -m ≤ N ∧ N ≤ 127 ∧ t * (2 : ℝ) ^ (-N) < 2 ∧ (N = -m ∨ 2 ^ (1 - 2 * s) ≤ t * (2 : ℝ) ^ (-N))) :
    ∃ N, At t N (downP th k inv p) ∧ -(m + s) ≤ N ∧ N ≤ 127 ∧ t * (2 : ℝ) ^ (-N) < 2 ∧ (N = -(m + s) ∨ 2 ^ (1 - s) ≤ t * (2 : ℝ) ^ (-N)) := by
  obtain ⟨N, rfl, h0, h1, h2, h3⟩ := h
  unfold downP At
  simp only [hth, hinv, sel_lt]
  by_cases c : t * (2 : ℝ) ^ (-N) < 2 ^ (1 - s)
  · refine ⟨N - s, ?_, by omega, by omega, ?_, ?_⟩
    · simp only [if_pos c]
      rw [← EReal.coe_mul]
      refine Prod.ext ?_ ?_
      · show BitVec.ofInt 32 N - k = _
        rw [hk, sub_eq_add_neg N s, BitVec.ofInt_add, BitVec.ofInt_neg, BitVec.sub_eq_add_neg]
      · have := shift t N (-s)
        rw [neg_neg] at this
        rw [this]; rfl
    · have e := shift t N (-s)
      rw [neg_neg] at e
      rw [sub_eq_add_neg, ← e]
      have : (2 : ℝ) = 2 ^ (1 - s) * 2 ^ s := by rw [← zpow_add₀ (by norm_num)]; simp
      calc t * (2 : ℝ) ^ (-N) * 2 ^ s < 2 ^ (1 - s) * 2 ^ s := mul_lt_mul_of_pos_right c (by positivity)
        _ = 2 := this.symm
    · rcases h3 with h3 | h3
      · left; omega
      · right
        have e := shift t N (-s)
        rw [neg_neg] at e
        rw [sub_eq_add_neg N s, ← e]
        have : (2 : ℝ) ^ (1 - s) = 2 ^ (1 - 2 * s) * 2 ^ s := by rw [← zpow_add₀ (by norm_num)]; congr 1; ring
        rw [this]
        exact mul_le_mul_of_nonneg_right h3 (by positivity)
  · exact ⟨N, by simp only [if_neg c], by omega, h1, h2, Or.inr (not_lt.mp c)⟩

/-- The search: the exponent of the largest power of two that is at most `t`, from `-127`. -/
theorem search (t : ℝ) (h0 : 0 ≤ t) (h1 : t < 2 ^ (128 : ℤ)) :
    ∃ N, At t N (down7 (down2 (up7 (up3 (t : EReal))))) ∧ -127 ≤ N ∧ N ≤ 127 ∧ t < 2 ^ (N + 1) ∧ (N = -127 ∨ 2 ^ N ≤ t) := by
  have u0 : ∃ N, At t N (0#32, (t : EReal)) ∧ 0 ≤ N ∧ N ≤ 0 ∧ t * (2 : ℝ) ^ (-N) < 2 ^ (2 * 64 : ℤ) ∧ (N = 0 ∨ 1 ≤ t * (2 : ℝ) ^ (-N)) :=
    ⟨0, by unfold At; simp, le_refl _, le_refl _, by simpa using h1, Or.inl rfl⟩
  have u1 := up_step 64 0 0x5F800000#32 64#32 0x1F800000#32 (ofBits_pow _ _ (by norm_num) (by norm_num) (by decide)) (ofBits_pow _ _ (by norm_num) (by norm_num) (by decide)) (by decide) (by norm_num) u0
  have u2 := up_step 32 _ 0x4F800000#32 32#32 0x2F800000#32 (ofBits_pow _ _ (by norm_num) (by norm_num) (by decide)) (ofBits_pow _ _ (by norm_num) (by norm_num) (by decide)) (by decide) (by norm_num) u1
  have u3 := up_step 16 _ 0x47800000#32 16#32 0x37800000#32 (ofBits_pow _ _ (by norm_num) (by norm_num) (by decide)) (ofBits_pow _ _ (by norm_num) (by norm_num) (by decide)) (by decide) (by norm_num) u2
  have u4 := up_step 8 _ 0x43800000#32 8#32 0x3B800000#32 (ofBits_pow _ _ (by norm_num) (by norm_num) (by decide)) (ofBits_pow _ _ (by norm_num) (by norm_num) (by decide)) (by decide) (by norm_num) u3
  have u5 := up_step 4 _ 0x41800000#32 4#32 0x3D800000#32 (ofBits_pow _ _ (by norm_num) (by norm_num) (by decide)) (ofBits_pow _ _ (by norm_num) (by norm_num) (by decide)) (by decide) (by norm_num) u4
  have u6 := up_step 2 _ 0x40800000#32 2#32 0x3E800000#32 (ofBits_pow _ _ (by norm_num) (by norm_num) (by decide)) (ofBits_pow _ _ (by norm_num) (by norm_num) (by decide)) (by decide) (by norm_num) u5
  have u7 := up_step 1 _ 0x40000000#32 1#32 0x3F000000#32 (ofBits_pow _ _ (by norm_num) (by norm_num) (by decide)) (ofBits_pow _ _ (by norm_num) (by norm_num) (by decide)) (by decide) (by norm_num) u6
  have d0 : ∃ N, At t N (up7 (up3 (t : EReal))) ∧ -0 ≤ N ∧ N ≤ 127 ∧ t * (2 : ℝ) ^ (-N) < 2 ∧ (N = -0 ∨ 2 ^ (1 - 2 * 64 : ℤ) ≤ t * (2 : ℝ) ^ (-N)) := by
    obtain ⟨N, a, b, c, d, e⟩ := u7
    refine ⟨N, a, by omega, by omega, by simpa using d, e.imp (fun h => by omega) (fun h => le_trans ?_ h)⟩
    exact zpow_le_one_of_nonpos₀ (by norm_num) (by norm_num)
  have d1 := down_step 64 0 0x20000000#32 64#32 0x5F800000#32 (ofBits_pow _ _ (by norm_num) (by norm_num) (by decide)) (ofBits_pow _ _ (by norm_num) (by norm_num) (by decide)) (by decide) (by norm_num) d0
  have d2 := down_step 32 _ 0x30000000#32 32#32 0x4F800000#32 (ofBits_pow _ _ (by norm_num) (by norm_num) (by decide)) (ofBits_pow _ _ (by norm_num) (by norm_num) (by decide)) (by decide) (by norm_num) d1
  have d3 := down_step 16 _ 0x38000000#32 16#32 0x47800000#32 (ofBits_pow _ _ (by norm_num) (by norm_num) (by decide)) (ofBits_pow _ _ (by norm_num) (by norm_num) (by decide)) (by decide) (by norm_num) d2
  have d4 := down_step 8 _ 0x3C000000#32 8#32 0x43800000#32 (ofBits_pow _ _ (by norm_num) (by norm_num) (by decide)) (ofBits_pow _ _ (by norm_num) (by norm_num) (by decide)) (by decide) (by norm_num) d3
  have d5 := down_step 4 _ 0x3E000000#32 4#32 0x41800000#32 (ofBits_pow _ _ (by norm_num) (by norm_num) (by decide)) (ofBits_pow _ _ (by norm_num) (by norm_num) (by decide)) (by decide) (by norm_num) d4
  have d6 := down_step 2 _ 0x3F000000#32 2#32 0x40800000#32 (ofBits_pow _ _ (by norm_num) (by norm_num) (by decide)) (ofBits_pow _ _ (by norm_num) (by norm_num) (by decide)) (by decide) (by norm_num) d5
  have d7 := down_step 1 _ 0x3F800000#32 1#32 0x40000000#32 (ofBits_pow _ _ (by norm_num) (by norm_num) (by decide)) (ofBits_pow _ _ (by norm_num) (by norm_num) (by decide)) (by decide) (by norm_num) d6
  obtain ⟨N, a, b, c, d, e⟩ := d7
  have split : t = t * (2 : ℝ) ^ (-N) * 2 ^ N := by rw [mul_assoc, ← zpow_add₀ (by norm_num)]; simp
  refine ⟨N, a, by omega, c, ?_, e.imp (fun h => by omega) (fun h => ?_)⟩
  · rw [split, zpow_add₀ (by norm_num), mul_comm ((2 : ℝ) ^ N)]
    exact mul_lt_mul_of_pos_right (by simpa using d) (by positivity)
  · rw [split]
    have : (1 : ℝ) ≤ t * (2 : ℝ) ^ (-N) := by simpa using h
    exact le_mul_of_one_le_left (by positivity) this

end Cert.Expo
-- ==== Proof.Expo2.lean ====
module

public import proofs.«01_k».proof.Proof.Expo
public import Idealize.ShloMosaic.Lib.IndicatorCount
public import Idealize.ShloMosaic.Lib.Pointwise

@[expose] public section

set_option maxRecDepth 8192

noncomputable section

/-! # The exponent, as the kernel and as the reference find it -/

namespace Cert.Expo

open Idealize.ShloMosaic Idealize.ShloMosaic.TcCoe Cert.KernelIdeal Cert.KernelIdeal.Gen Cert.Block

/-- Two to a 32-bit integer, as the reference raises it. -/
def powTwo (n : BitVec 32) : EReal := Ideal.pow (Ideal.ofBits .f32 0x40000000#32) (((n.toInt : ℝ)) : EReal)

/-- How many of the powers of two from `2 ^ -126` to `2 ^ 127` are at most the scaled maximum. -/
def count (a : EReal) : BitVec 32 :=
  Finset.univ.fold IntOp.addi 0#32 fun i : Fin 254 =>
    (Ideal.cmp .oge (a * Ideal.ofBits .f32 0x3B124925#32) (powTwo (IntOp.addi 4294967170#32 (BitVec.ofNat 32 i.val)))).setWidth 32

/-- The exponent of the scale, as the reference finds it. -/
def expR (a : EReal) : BitVec 32 :=
  Scalar.select (IntOp.ori (IntOp.cmpi .eq (count a) 0#32) (Ideal.cmp .ogt a (Ideal.ofBits .f32 0x7F7FFFFF#32))) 0#32
    (IntOp.subi (count a) 126#32)

/-- The exponent of the scale, as the kernel finds it from the exponent field `f`. -/
def expK (f : BitVec 32) : BitVec 32 :=
  Scalar.select (IntOp.ori (IntOp.cmpi .eq f 0#32) (IntOp.cmpi .eq f 255#32)) 0#32 (IntOp.subi f 126#32)

theorem pay807_at (f : IVec S128x64 32) (z : S128x64.Idx) : k0_pay807 f z = expK (f z) := rfl

theorem pay808_at (f : IVec S128x64 32) (z : S128x64.Idx) :
    k0_pay808 (F := Ideal) f z = Ideal.ofBits .f32 (IntOp.shli .vector (IntOp.addi (expK (f z)) 127#32) 23#32) := rfl

theorem pay809_at (f : IVec S128x64 32) (z : S128x64.Idx) :
    k0_pay809 (F := Ideal) f z = Ideal.ofBits .f32 (IntOp.shli .vector (IntOp.subi 127#32 (expK (f z))) 23#32) := rfl

theorem two_eq : Ideal.ofBits .f32 0x40000000#32 = ((2 : ℝ) : EReal) := by
  rw [ofBits_pow _ 1 (by norm_num) (by norm_num) (by decide)]; norm_num

theorem pow_int (z : ℤ) : Ideal.pow (Ideal.ofBits .f32 0x40000000#32) ((z : ℝ) : EReal) = (((2 : ℝ) ^ z : ℝ) : EReal) := by
  rw [two_eq]
  show ((Real.rpow 2 (z : ℝ) : ℝ) : EReal) = _
  exact congrArg _ (Real.rpow_intCast 2 z)

theorem toInt_small (z : ℤ) (h0 : -1000 ≤ z) (h1 : z ≤ 1000) : (BitVec.ofInt 32 z).toInt = z := by
  rw [BitVec.toInt_ofInt]; exact Int.bmod_eq_of_le (by norm_num; omega) (by norm_num; omega)

theorem powTwo_ofInt (z : ℤ) (h0 : -1000 ≤ z) (h1 : z ≤ 1000) : powTwo (BitVec.ofInt 32 z) = (((2 : ℝ) ^ z : ℝ) : EReal) := by
  unfold powTwo; rw [toInt_small z h0 h1, pow_int]

/-- The powers that the reference compares with. -/
theorem power_at (i : Fin 254) :
    powTwo (IntOp.addi 4294967170#32 (BitVec.ofNat 32 i.val)) = (((2 : ℝ) ^ ((i.val : ℤ) - 126) : ℝ) : EReal) := by
  have : IntOp.addi 4294967170#32 (BitVec.ofNat 32 i.val) = BitVec.ofInt 32 ((i.val : ℤ) - 126) := by
    show _ + _ = _
    rw [sub_eq_neg_add, BitVec.ofInt_add]; congr 1
  rw [this, powTwo_ofInt _ (by omega) (by have := i.isLt; omega)]

theorem c_eq : Ideal.ofBits .f32 0x3B124925#32 = (((9586981 : ℝ) / 2 ^ 32 : ℝ) : EReal) := by
  simp [Ideal.ofBits, Ideal.ieee, -EReal.coe_mul]; norm_num

theorem max_eq : Ideal.ofBits .f32 0x7F7FFFFF#32 = (((16777215 : ℝ) * 2 ^ 104 : ℝ) : EReal) := by
  simp [Ideal.ofBits, Ideal.ieee, -EReal.coe_mul]

/-- The count of the powers below a number between `2 ^ N` and `2 ^ (N + 1)`. -/
theorem count_eq (a : EReal) (t : ℝ) (ht : a * Ideal.ofBits .f32 0x3B124925#32 = (t : EReal)) (N : ℤ) (h0 : -127 ≤ N) (h1 : N ≤ 127)
    (h2 : t < 2 ^ (N + 1)) (h3 : N = -127 ∨ 2 ^ N ≤ t) : count a = BitVec.ofInt 32 (N + 127) := by
  unfold count
  rw [IndicatorCount.fold_addi_setWidth_eq_card]
  have : (Finset.univ.filter fun i : Fin 254 =>
      Ideal.cmp .oge (a * Ideal.ofBits .f32 0x3B124925#32) (powTwo (IntOp.addi 4294967170#32 (BitVec.ofNat 32 i.val))) = 1#1)
      = Finset.univ.filter fun i : Fin 254 => i.val < (N + 127).toNat := by
    refine Finset.filter_congr fun i _ => ?_
    rw [power_at, ht]
    have e : Ideal.cmp .oge (t : EReal) (((2 : ℝ) ^ ((i.val : ℤ) - 126) : ℝ) : EReal) = 1#1 ↔ (2 : ℝ) ^ ((i.val : ℤ) - 126) ≤ t := by
      unfold Ideal.cmp
      by_cases q : (2 : ℝ) ^ ((i.val : ℤ) - 126) ≤ t <;> simp [q]
    rw [e]
    constructor
    · intro q
      have : (2 : ℝ) ^ ((i.val : ℤ) - 126) < 2 ^ (N + 1) := lt_of_le_of_lt q h2
      have := (zpow_lt_zpow_iff_right₀ (by norm_num : (1 : ℝ) < 2)).mp this
      omega
    · intro q
      rcases h3 with h3 | h3
      · omega
      · exact le_trans ((zpow_le_zpow_iff_right₀ (by norm_num : (1 : ℝ) < 2)).mpr (by omega)) h3
  rw [this, Fin.card_filter_val_lt]
  rw [← BitVec.ofInt_natCast]
  congr 1
  omega

theorem cmp_le (x y : ℝ) : Ideal.cmp .ole (x : EReal) (y : EReal) = if x ≤ y then 1#1 else 0#1 := by
  unfold Ideal.cmp
  by_cases q : x ≤ y <;> simp [q]

/-- Both exponents are one number, and a moderate one. -/
theorem exp_spec (a : EReal) (ha : 0 ≤ a) :
    ∃ e : ℤ, -125 ≤ e ∧ e ≤ 120 ∧ expR a = BitVec.ofInt 32 e ∧ expK (fieldOf a) = BitVec.ofInt 32 e := by
  by_cases q : a ≤ Ideal.ofBits .f32 0x7F7FFFFF#32
  · have c1 : Ideal.cmp .ole a (Ideal.ofBits .f32 0x7F7FFFFF#32) = 1 := by unfold Ideal.cmp; simp [q]
    have c2 : Ideal.cmp .ogt a (Ideal.ofBits .f32 0x7F7FFFFF#32) = 0#1 := by unfold Ideal.cmp; simp [not_lt.mpr q]
    obtain ⟨r, rfl⟩ : ∃ r : ℝ, a = (r : EReal) := by
      rw [max_eq] at q
      induction a using EReal.rec with
      | bot => simp at ha
      | top => exact absurd (top_le_iff.mp q) (EReal.coe_ne_top _)
      | coe r => exact ⟨r, rfl⟩
    have r0 : 0 ≤ r := by exact_mod_cast ha
    have r1 : r ≤ 16777215 * 2 ^ 104 := by rw [max_eq] at q; exact_mod_cast q
    have ht : (r : EReal) * Ideal.ofBits .f32 0x3B124925#32 = ((r * (9586981 / 2 ^ 32) : ℝ) : EReal) := by rw [c_eq, EReal.coe_mul]
    have t0 : 0 ≤ r * (9586981 / 2 ^ 32) := by positivity
    have t1 : r * (9586981 / 2 ^ 32) < (2 : ℝ) ^ (120 : ℤ) := by
      have : r * (9586981 / 2 ^ 32) ≤ 16777215 * 2 ^ 104 * (9586981 / 2 ^ 32) := mul_le_mul_of_nonneg_right r1 (by norm_num)
      refine lt_of_le_of_lt this (by norm_num)
    obtain ⟨N, hN, n0, n1, n2, n3⟩ := search _ t0 (lt_trans t1 (by norm_num))
    have n4 : N ≤ 119 := by
      rcases n3 with n3 | n3
      · omega
      · have := (zpow_lt_zpow_iff_right₀ (by norm_num : (1 : ℝ) < 2)).mp (lt_of_le_of_lt n3 t1)
        omega
    have hc := count_eq (r : EReal) _ ht N n0 n1 n2 n3
    have hf : fieldOf (r : EReal) = BitVec.ofInt 32 (N + 127) := by
      unfold fieldOf
      rw [c1, ht, hN]
      show BitVec.ofInt 32 N + 127#32 = _
      rw [BitVec.ofInt_add]; congr 1
    have fin : ∀ k : Fin 247, expK (BitVec.ofInt 32 ((k.val : ℤ))) = Scalar.select (IntOp.ori (IntOp.cmpi .eq (BitVec.ofInt 32 ((k.val : ℤ))) 0#32) 0#1) 0#32
        (IntOp.subi (BitVec.ofInt 32 ((k.val : ℤ))) 126#32) ∧ expK (BitVec.ofInt 32 ((k.val : ℤ))) = BitVec.ofInt 32 (if k.val = 0 then 0 else (k.val : ℤ) - 126) := by
      decide +kernel
    obtain ⟨f1, f2⟩ := fin ⟨(N + 127).toNat, by omega⟩
    have e1 : (((N + 127).toNat : ℕ) : ℤ) = N + 127 := by omega
    simp only [e1] at f1 f2
    refine ⟨if (N + 127).toNat = 0 then 0 else N + 127 - 126, ?_, ?_, ?_, ?_⟩
    · split <;> omega
    · split <;> omega
    · rw [← f2, f1]; unfold expR; rw [hc, c2]
    · rw [hf, f2]
  · have c1 : Ideal.cmp .ole a (Ideal.ofBits .f32 0x7F7FFFFF#32) = 0 := by unfold Ideal.cmp; simp [q]
    have c2 : Ideal.cmp .ogt a (Ideal.ofBits .f32 0x7F7FFFFF#32) = 1#1 := by unfold Ideal.cmp; simp [not_le.mp q]
    refine ⟨0, by norm_num, by norm_num, ?_, ?_⟩
    · unfold expR
      rw [c2]
      generalize IntOp.cmpi .eq (count a) 0#32 = w
      have : IntOp.ori w 1#1 = 1 := by revert w; decide
      rw [this]; rfl
    · unfold fieldOf
      rw [c1]
      generalize IntOp.addi _ 127#32 = w
      exact (by decide +kernel : expK 255#32 = BitVec.ofInt 32 0)

theorem shli_up (k : Fin 246) : IntOp.shli .vector (IntOp.addi (BitVec.ofInt 32 ((k.val : ℤ) - 125)) 127#32) 23#32 = BitVec.ofNat 32 (k.val + 2) <<< 23 := by
  revert k; decide +kernel

theorem shli_down (k : Fin 246) : IntOp.shli .vector (IntOp.subi 127#32 (BitVec.ofInt 32 ((k.val : ℤ) - 125))) 23#32 = BitVec.ofNat 32 (252 - k.val) <<< 23 := by
  revert k; decide +kernel

theorem neg_small (k : Fin 246) : - BitVec.ofInt 32 ((k.val : ℤ) - 125) = BitVec.ofInt 32 (125 - (k.val : ℤ)) := by
  revert k; decide +kernel

/-- The kernel's scale is the reference's power of two. -/
theorem scale_at (f : IVec S128x64 32) (z : S128x64.Idx) (a : EReal) (ha : 0 ≤ a) (hf : f z = fieldOf a) :
    k0_pay808 (F := Ideal) f z = powTwo (expR a) := by
  obtain ⟨e, e0, e1, h1, h2⟩ := exp_spec a ha
  rw [pay808_at, hf, h2, h1, powTwo_ofInt _ (by omega) (by omega)]
  have := shli_up ⟨(e + 125).toNat, by omega⟩
  have q : (((e + 125).toNat : ℕ) : ℤ) - 125 = e := by omega
  simp only [q] at this
  rw [this, ofBits_two _ (by omega) (by omega)]
  congr 2; push_cast; omega

/-- The kernel's reciprocal scale is the reference's power of two. -/
theorem inv_at (f : IVec S128x64 32) (z : S128x64.Idx) (a : EReal) (ha : 0 ≤ a) (hf : f z = fieldOf a) :
    k0_pay809 (F := Ideal) f z = powTwo (- expR a) := by
  obtain ⟨e, e0, e1, h1, h2⟩ := exp_spec a ha
  have q : (((e + 125).toNat : ℕ) : ℤ) - 125 = e := by omega
  have q' : 125 - (((e + 125).toNat : ℕ) : ℤ) = -e := by omega
  have n := neg_small ⟨(e + 125).toNat, by omega⟩
  have := shli_down ⟨(e + 125).toNat, by omega⟩
  simp only [q, q'] at this n
  rw [pay809_at, hf, h2, h1, n, powTwo_ofInt _ (by omega) (by omega)]
  rw [this, ofBits_two _ (by omega) (by omega)]
  congr 2; omega

end Cert.Expo
-- ==== Proof.Spec.lean ====
module

public import proofs.«01_k».proof.Proof.Rows2
public import proofs.«01_k».proof.Proof.Expo2
public import proofs.«01_k».proof.Proof.Pack

@[expose] public section

set_option maxRecDepth 8192

noncomputable section

/-! # The six results, as functions of the arguments -/

namespace Cert.Spec

open Idealize.ShloMosaic Idealize.ShloMosaic.TcCoe Cert.KernelIdeal Cert.KernelIdeal.Gen Cert.Block Cert.Rows Cert.Expo

/-- A column vector of the arguments. -/
def vec (v : S8192.Idx → EReal) (k : Fin 8192) : EReal := v (ix1 k)

/-- Whether the entry is kept. -/
def kept (rnd : S1x2048x8192.Idx → BitVec 32) (R : Fin 2048) (k : Fin 8192) : BitVec 1 :=
  IntOp.cmpi .uge (rnd (ix3 (0 : Fin 1) R k)) 429496730#32

variable (x a : S1x2048x8192.Idx → EReal) (bias : S8192.Idx → EReal) (rnd : S1x2048x8192.Idx → BitVec 32)
  (gam bet : S8192.Idx → EReal)

/-- Row `R` of the residual stream. -/
def stream (R : Fin 2048) (k : Fin 8192) : EReal :=
  x (ix3 (0 : Fin 1) R k) + Scalar.select (kept rnd R k) ((a (ix3 (0 : Fin 1) R k) + vec bias k) * Ideal.ofBits .f32 0x3F8E38E4#32) 0

/-- The exponent of the scale of block `j` of row `R`. -/
def expo (R : Fin 2048) (j : Fin 64) : BitVec 32 := expR (amaxR (stream x a bias rnd R) (vec gam) (vec bet) j)

/-- The scale of block `j` of row `R`. -/
def scale (R : Fin 2048) (j : Fin 64) : EReal := powTwo (expo x a bias rnd gam bet R j)

/-- The code of entry `k` of row `R`. -/
def code (R : Fin 2048) (k : Fin 8192) : EReal :=
  clipE (normR (stream x a bias rnd R) (vec gam) (vec bet) k)
    (powTwo (- expo x a bias rnd gam bet R ⟨k.val / 128, by omega⟩))

/-- Byte `q` of row `R` of the packed mask. -/
def packed (R : Fin 2048) (q : Fin 1024) : BitVec 8 :=
  BitVec.setWidth 8 (BitVec.ofNat 32 (Pack.byte fun j => kept rnd R ⟨8 * q.val + j.val, by omega⟩))

end Cert.Spec
-- ==== Proof.Entries.lean ====
module

public import proofs.«01_k».proof.Proof.Inputs
public import proofs.«01_k».proof.Proof.Spec

@[expose] public section

set_option maxRecDepth 16384
set_option maxHeartbeats 4000000

noncomputable section

/-! # The blocks that the kernel works on -/

namespace Cert.Entries

open Idealize.ShloMosaic Idealize.ShloMosaic.TcCoe Cert.KernelIdeal Cert.KernelIdeal.Gen Cert.Block Cert.Rows Cert.Expo Cert.Spec Cert.Inputs

variable (m : (ℓ : Loc nD τ sig) → Buf (Elt Ideal) ℓ) (c : Dev nD)

/-- The input. -/
def X : S1x2048x8192.Idx → EReal := m ((c : Thread nD τ).loc main_arg0)
/-- The activation. -/
def A : S1x2048x8192.Idx → EReal := m ((c : Thread nD τ).loc main_arg1)
/-- The bias. -/
def Bi : S8192.Idx → EReal := m ((c : Thread nD τ).loc main_arg2)
/-- The random bits. -/
def Rn : S1x2048x8192.Idx → BitVec 32 := m ((c : Thread nD τ).loc main_arg3)
/-- The gain. -/
def Ga : S8192.Idx → EReal := m ((c : Thread nD τ).loc main_arg4)
/-- The offset. -/
def Be : S8192.Idx → EReal := m ((c : Thread nD τ).loc main_arg5)

theorem index0 : ∀ t : Fin cfg0.N, win0_0.index t = ![(grid0.coords t 0).val, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![(grid0.coords t 0).val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![(grid0.coords t 0).val, 0] := (by decide +kernel : ∀ t : Fin grid0.N, _)
theorem index9 : ∀ t : Fin cfg0.N, win0_9.index t = ![(grid0.coords t 0).val, 0] := (by decide +kernel : ∀ t : Fin grid0.N, _)
theorem index10 : ∀ t : Fin cfg0.N, win0_10.index t = ![(grid0.coords t 0).val, 0] := (by decide +kernel : ∀ t : Fin grid0.N, _)
theorem index11 : ∀ t : Fin cfg0.N, win0_11.index t = ![0, (grid0.coords t 0).val] := (by decide +kernel : ∀ t : Fin grid0.N, _)
theorem index12 : ∀ t : Fin cfg0.N, win0_12.index t = ![0, (grid0.coords t 0).val] := (by decide +kernel : ∀ t : Fin grid0.N, _)
theorem index13 : ∀ t : Fin cfg0.N, win0_13.index t = ![(grid0.coords t 0).val, 0] := (by decide +kernel : ∀ t : Fin grid0.N, _)

theorem coord_lt : ∀ t : Fin cfg0.N, (grid0.coords t 0).val < 16 := (by decide +kernel : ∀ t : Fin grid0.N, _)

/-- The row of the whole array that row `r` of block `t` is. -/
def row (t : Fin cfg0.N) (r : Fin 128) : Fin 2048 := ⟨(grid0.coords t 0).val * 128 + r.val, by have := coord_lt t; omega⟩

theorem iblk0 (t : Fin cfg0.N) (r : Fin 128) (k : Fin 8192) : iblk m c 0 t (ix2 r k) = X m c (ix3 0 (row t r) k) := by
  refine Eq.trans ?_ (V_main_v0 m c (row t r) k)
  blk_ext [iblk, index0 t, row]

theorem iblk1 (t : Fin cfg0.N) (r : Fin 128) (k : Fin 8192) : iblk m c 1 t (ix2 r k) = A m c (ix3 0 (row t r) k) := by
  refine Eq.trans ?_ (V_main_v1 m c (row t r) k)
  blk_ext [iblk, index1 t, row]

theorem iblk2 (t : Fin cfg0.N) (r : Fin 128) (k : Fin 8192) : iblk m c 2 t (ix2 r k) = Rn m c (ix3 0 (row t r) k) := by
  refine Eq.trans ?_ (V_main_v2 m c (row t r) k)
  blk_ext [iblk, index2 t, row]

theorem iblk3 (t : Fin cfg0.N) (k : Fin 8192) : iblk m c 3 t (ix2 0 k) = Bi m c (ix1 k) := by
  refine Eq.trans ?_ (V_main_v3 m c k)
  blk_ext [iblk, index3 t]

theorem iblk4 (t : Fin cfg0.N) (k : Fin 8192) : iblk m c 4 t (ix2 0 k) = Ga m c (ix1 k) := by
  refine Eq.trans ?_ (V_main_v4 m c k)
  blk_ext [iblk, index4 t]

theorem iblk5 (t : Fin cfg0.N) (k : Fin 8192) : iblk m c 5 t (ix2 0 k) = Be m c (ix1 k) := by
  refine Eq.trans ?_ (V_main_v5 m c k)
  blk_ext [iblk, index5 t]

theorem iblk6 (t : Fin cfg0.N) (k : Fin 1024) (l : Fin 128) : iblk m c 6 t (ix2 k l) = if k.val / 8 = l.val then Pack.weight (k.val % 8) else 0 := by
  refine Eq.trans ?_ (V_main_v21 m c k l)
  blk_ext [iblk, index6 t]

theorem iblk7 (t : Fin cfg0.N) (j : Fin 64) (k : Fin 8192) : iblk m c 7 t (ix2 j k) = if k.val / 128 = j.val then (1 : EReal) else 0 := by
  refine Eq.trans ?_ (V_main_v30 m c j k)
  blk_ext [iblk, index7 t]

/-- The row functions of a block are those of the whole array. -/
theorem row_eq (t : Fin cfg0.N) (r : Fin 128) :
    rowOf (iblk m c 0 t) (iblk m c 1 t) (iblk m c 2 t) (iblk m c 3 t) r = stream (X m c) (A m c) (Bi m c) (Rn m c) (row t r) := by
  funext k
  have e0 := iblk0 m c t r k
  have e1 := iblk1 m c t r k
  have e2 := iblk2 m c t r k
  have e3 := iblk3 m c t k
  unfold rowOf stream hid keptBit kept vec
  rw [← e0, ← e1, ← e2, ← e3]
  rfl

theorem gain_eq (t : Fin cfg0.N) : vecOf (iblk m c 4 t) = vec (Ga m c) := funext fun k => iblk4 m c t k

theorem offset_eq (t : Fin cfg0.N) : vecOf (iblk m c 5 t) = vec (Be m c) := funext fun k => iblk5 m c t k

end Cert.Entries
-- ==== Proof.Finals.lean ====
module

public import proofs.«01_k».proof.Proof.Entries

@[expose] public section

set_option maxRecDepth 16384
set_option maxHeartbeats 400000

noncomputable section

/-! # The six results after the run -/

namespace Cert.Finals

open Idealize.ShloMosaic Idealize.ShloMosaic.TcCoe Cert.KernelIdeal Cert.KernelIdeal.Gen Cert.Block Cert.Rows Cert.Expo Cert.Spec Cert.Entries

variable (m : (ℓ : Loc nD τ sig) → Buf (Elt Ideal) ℓ) (c : Dev nD)

/-- An index of a matrix is its coordinates. -/
theorem eta2 {n k : ℕ} (y : (⟨2, ![n, k]⟩ : Shape).Idx) : y = ix2 (show Fin n from y 0) (show Fin k from y 1) := by
  funext a
  match a with
  | ⟨0, _⟩ => rfl
  | ⟨1, _⟩ => rfl

/-- The residual stream. -/
theorem final13 : (dats m 0 c).arrAt 13 cfg0.N = fun z : S2048x8192.Idx => stream (X m c) (A m c) (Bi m c) (Rn m c) (z 0) (z 1) := by
  refine (dats m 0 c).arrAt_eq_of_covers 13 _ (by decide +kernel) fun t hf y => ?_
  blk_simp; rw [after0_13]
  have e0 : (show Fin 2048 from (win0_13.blk t).view.emb y 0) = row t (show Fin 128 from y 0) := Fin.ext (by blk_simp [index13 t, row])
  have e1 : (show Fin 8192 from (win0_13.blk t).view.emb y 1) = (show Fin 8192 from y 1) := Fin.ext (by blk_simp [index13 t])
  refine Eq.trans ?_ (congrArg₂ (stream (X m c) (A m c) (Bi m c) (Rn m c)) e0.symm e1.symm)
  rw [← row_eq]
  exact congrArg (hid (iblk m c 0 t) (iblk m c 1 t) (iblk m c 2 t) (iblk m c 3 t)) (eta2 y)

/-- The means. -/
theorem final11 : (dats m 0 c).arrAt 11 cfg0.N = fun z : S1x2048.Idx => mean (stream (X m c) (A m c) (Bi m c) (Rn m c) (z 1)) := by
  refine (dats m 0 c).arrAt_eq_of_covers 11 _ (by decide +kernel) fun t hf y => ?_
  blk_simp; rw [after0_11]
  have e1 : (show Fin 2048 from (win0_11.blk t).view.emb y 1) = row t (show Fin 128 from y 1) := Fin.ext (by blk_simp [index11 t, row])
  refine Eq.trans ?_ (congrArg (fun R => mean (stream (X m c) (A m c) (Bi m c) (Rn m c) R)) e1.symm)
  rw [← row_eq, ← oMean_row]
  refine congrArg (oMean (iblk m c 0 t) (iblk m c 1 t) (iblk m c 2 t) (iblk m c 3 t)) ((eta2 y).trans ?_)
  exact congrArg (fun q : Fin 1 => ix2 q (show Fin 128 from y 1)) (Subsingleton.elim _ _)

/-- The reciprocal standard deviations. -/
theorem final12 : (dats m 0 c).arrAt 12 cfg0.N = fun z : S1x2048.Idx => rstdR (stream (X m c) (A m c) (Bi m c) (Rn m c) (z 1)) := by
  refine (dats m 0 c).arrAt_eq_of_covers 12 _ (by decide +kernel) fun t hf y => ?_
  blk_simp; rw [after0_12]
  have e1 : (show Fin 2048 from (win0_12.blk t).view.emb y 1) = row t (show Fin 128 from y 1) := Fin.ext (by blk_simp [index12 t, row])
  refine Eq.trans ?_ (congrArg (fun R => rstdR (stream (X m c) (A m c) (Bi m c) (Rn m c) R)) e1.symm)
  rw [← row_eq, ← oRstd_row]
  refine congrArg (oRstd (iblk m c 0 t) (iblk m c 1 t) (iblk m c 2 t) (iblk m c 3 t)) ((eta2 y).trans ?_)
  exact congrArg (fun q : Fin 1 => ix2 q (show Fin 128 from y 1)) (Subsingleton.elim _ _)

/-- The exponent field of a block is that of its largest magnitude. -/
theorem field_row (t : Fin cfg0.N) (r : Fin 128) (j : Fin 64) :
    fieldB (iblk m c 0 t) (iblk m c 1 t) (iblk m c 2 t) (iblk m c 3 t) (iblk m c 4 t) (iblk m c 5 t) (ix2 r j)
      = fieldOf (amaxR (stream (X m c) (A m c) (Bi m c) (Rn m c) (row t r)) (vec (Ga m c)) (vec (Be m c)) j) := by
  unfold fieldB
  rw [field_at, amax_row, row_eq, gain_eq, offset_eq]

/-- The scales. -/
theorem final9 : (dats m 0 c).arrAt 9 cfg0.N
    = fun z : S2048x64.Idx => scale (X m c) (A m c) (Bi m c) (Rn m c) (Ga m c) (Be m c) (z 0) (z 1) := by
  refine (dats m 0 c).arrAt_eq_of_covers 9 _ (by decide +kernel) fun t hf y => ?_
  blk_simp; rw [after0_9]
  have e0 : (show Fin 2048 from (win0_9.blk t).view.emb y 0) = row t (show Fin 128 from y 0) := Fin.ext (by blk_simp [index9 t, row])
  have e1 : (show Fin 64 from (win0_9.blk t).view.emb y 1) = (show Fin 64 from y 1) := Fin.ext (by blk_simp [index9 t])
  refine Eq.trans ?_ (congrArg₂ (scale (X m c) (A m c) (Bi m c) (Rn m c) (Ga m c) (Be m c)) e0.symm e1.symm)
  unfold oScale scale expo
  refine Eq.trans (congrArg _ (eta2 y)) ?_
  exact scale_at _ _ _ (amaxR_nonneg _ _ _ _) (field_row m c t _ _)

/-- The codes. -/
theorem final8 : (dats m 0 c).arrAt 8 cfg0.N
    = fun z : S2048x8192.Idx => code (X m c) (A m c) (Bi m c) (Rn m c) (Ga m c) (Be m c) (z 0) (z 1) := by
  refine (dats m 0 c).arrAt_eq_of_covers 8 _ (by decide +kernel) fun t hf y => ?_
  blk_simp; rw [after0_8]
  have e0 : (show Fin 2048 from (win0_8.blk t).view.emb y 0) = row t (show Fin 128 from y 0) := Fin.ext (by blk_simp [index8 t, row])
  have e1 : (show Fin 8192 from (win0_8.blk t).view.emb y 1) = (show Fin 8192 from y 1) := Fin.ext (by blk_simp [index8 t])
  refine Eq.trans ?_ (congrArg₂ (code (X m c) (A m c) (Bi m c) (Rn m c) (Ga m c) (Be m c)) e0.symm e1.symm)
  refine Eq.trans (congrArg _ (eta2 y)) ?_
  generalize (show Fin 128 from y 0) = r
  generalize (show Fin 8192 from y 1) = k
  unfold oCode code expo
  rw [normB_row, row_eq, gain_eq, offset_eq]
  refine congrArg (clipE _) ?_
  unfold spreadB
  refine Eq.trans (Finset.sum_congr rfl fun j _ => congrArg (_ * ·) (iblk7 m c t j k)) ?_
  refine Eq.trans (Pack.sum_onehot (fun j => k0_pay809 (F := Ideal)
    (fieldB (iblk m c 0 t) (iblk m c 1 t) (iblk m c 2 t) (iblk m c 3 t) (iblk m c 4 t) (iblk m c 5 t)) (ix2 r j)) (k.val / 128) (by omega)) ?_
  exact inv_at _ _ _ (amaxR_nonneg _ _ _ _) (field_row m c t _ _)

/-- The sum that packs eight entries of the mask. -/
theorem mask_sum (rr : S128x8192.Idx → BitVec 32) (pw : S1024x128.Idx → EReal)
    (hpw : ∀ (k : Fin 1024) (l : Fin 128), pw (ix2 k l) = if k.val / 8 = l.val then Pack.weight (k.val % 8) else 0) (r : Fin 128) (q : Fin 1024) :
    ∑ k : Fin 1024, mask01 rr (ix2 r (⟨(1024 * (q.val / 128) + k.val) % 8192, Nat.mod_lt _ (by decide)⟩ : Fin 8192))
        * pw (ix2 k (⟨q.val % 128, Nat.mod_lt _ (by decide)⟩ : Fin 128))
      = ∑ j : Fin 8, Scalar.select (keptBit rr (ix2 r (⟨8 * q.val + j.val, by omega⟩ : Fin 8192))) (1 : EReal) 0 * Pack.weight j.val := by
  simp only [hpw]
  refine (Pack.sum_group (fun k => mask01 rr (ix2 r (⟨(1024 * (q.val / 128) + k.val) % 8192, Nat.mod_lt _ (by decide)⟩ : Fin 8192)))
    (⟨q.val % 128, Nat.mod_lt _ (by decide)⟩ : Fin 128)).trans ?_
  refine Finset.sum_congr rfl fun j _ => ?_
  have e : (⟨(1024 * (q.val / 128) + (8 * (q.val % 128) + j.val)) % 8192, Nat.mod_lt _ (by decide)⟩ : Fin 8192) = ⟨8 * q.val + j.val, by omega⟩ :=
    Fin.ext (by show (1024 * (q.val / 128) + (8 * (q.val % 128) + j.val)) % 8192 = 8 * q.val + j.val; omega)
  exact congrArg (fun k => mask01 rr (ix2 r k) * Pack.weight j.val) e

/-- A byte of a block's packed mask. -/
theorem mask_row (rr : S128x8192.Idx → BitVec 32) (pw : S1024x128.Idx → EReal)
    (hpw : ∀ (k : Fin 1024) (l : Fin 128), pw (ix2 k l) = if k.val / 8 = l.val then Pack.weight (k.val % 8) else 0) (r : Fin 128) (q : Fin 1024) :
    oMask rr pw (ix2 r q)
      = BitVec.setWidth 8 (BitVec.ofNat 32 (Pack.byte fun j => keptBit rr (ix2 r (⟨8 * q.val + j.val, by omega⟩ : Fin 8192)))) := by
  have h := mask_sum rr pw hpw r q
  have f := Pack.float_byte fun j => keptBit rr (ix2 r (⟨8 * q.val + j.val, by omega⟩ : Fin 8192))
  rw [← h] at f
  rw [← f]
  rfl

/-- The packed mask. -/
theorem final10 : (dats m 0 c).arrAt 10 cfg0.N = fun z : S2048x1024.Idx => packed (Rn m c) (z 0) (z 1) := by
  refine (dats m 0 c).arrAt_eq_of_covers 10 _ (by decide +kernel) fun t hf y => ?_
  blk_simp; rw [after0_10]
  have e0 : (show Fin 2048 from (win0_10.blk t).view.emb y 0) = row t (show Fin 128 from y 0) := Fin.ext (by blk_simp [index10 t, row])
  have e1 : (show Fin 1024 from (win0_10.blk t).view.emb y 1) = (show Fin 1024 from y 1) := Fin.ext (by blk_simp [index10 t])
  refine Eq.trans ?_ (congrArg₂ (packed (Rn m c)) e0.symm e1.symm)
  refine Eq.trans (congrArg _ (eta2 y)) ?_
  generalize (show Fin 128 from y 0) = r
  generalize (show Fin 1024 from y 1) = q
  refine (mask_row (iblk m c 2 t) (iblk m c 6 t) (iblk6 m c t) r q).trans ?_
  unfold packed
  have k : (fun j : Fin 8 => keptBit (iblk m c 2 t) (ix2 r (⟨8 * q.val + j.val, by omega⟩ : Fin 8192)))
      = fun j : Fin 8 => kept (Rn m c) (row t r) ⟨8 * q.val + j.val, by omega⟩ := by
    funext j
    unfold keptBit kept
    rw [iblk2]
  rw [k]

end Cert.Finals
-- ==== Proof.Ref.lean ====
module

public import proofs.«01_k».proof.Proof.Gen.ReferenceIdeal.Read
public import proofs.«01_k».proof.Proof.Spec
public import Idealize.ShloMosaic.Lib.Pointwise

@[expose] public section

set_option maxRecDepth 16384

noncomputable section

/-! # The reference's results -/

namespace Cert.Ref

open Idealize.ShloMosaic Idealize.ShloMosaic.TcCoe Cert.ReferenceIdeal Cert.ReferenceIdeal.Gen Cert.ReferenceIdeal.Read

variable (x0 x1 : S1x2048x8192.Idx → EReal) (x2 : S8192.Idx → EReal) (x3 : S1x2048x8192.Idx → BitVec 32) (x4 x5 : S8192.Idx → EReal)

/-- An index is its coordinates. -/
theorem eta3 {n k : ℕ} (i : (⟨3, ![1, n, k]⟩ : Shape).Idx) : i = ix3 (0 : Fin 1) (show Fin n from i 1) (show Fin k from i 2) := by
  funext a
  match a with
  | ⟨0, _⟩ => exact Subsingleton.elim (α := Fin 1) _ _
  | ⟨1, _⟩ => rfl
  | ⟨2, _⟩ => rfl

/-- The kept entries. -/
theorem kept_at (i : S1x2048x8192.Idx) : val_main_v1 (F := Ideal) x3 i = Spec.kept x3 (i 1) (i 2) := by
  rw [val_main_v1_apply, val_main_v0_apply]
  unfold Spec.kept
  exact congrArg (fun j => IntOp.cmpi .uge (x3 j) 429496730#32) (eta3 i)

/-- The residual stream. -/
theorem stream_at (i : S1x2048x8192.Idx) :
    val_main_v11 (F := Ideal) x0 x1 x2 x3 i = Spec.stream x0 x1 x2 x3 (i 1) (i 2) := by
  rw [val_main_v11_apply, val_main_v10_apply, val_main_v9_apply, val_main_v8_apply, val_main_v7_apply, val_main_v6_apply, val_main_v5_apply,
    val_main_v4_apply, val_main_v3_apply, val_main_v2_apply, val_main_call0_v1_apply, kept_at]
  have e : idx_main_v3 (idx_main_v4 i) = ix1 (show Fin 8192 from i 2) := by
    funext a; match a with | ⟨0, _⟩ => rfl
  rw [e]
  have z : val_main_call0_v0 (F := Ideal) (idx_main_call0_v1 i) = (0 : EReal) := Ideal.ofBits_zero_f32
  rw [z]
  unfold Spec.stream Spec.vec
  exact congrArg (fun j => x0 j + Scalar.select (Spec.kept x3 (i 1) (i 2)) ((x1 j + x2 (ix1 (show Fin 8192 from i 2))) * Ideal.ofBits .f32 0x3F8E38E4#32) 0) (eta3 i)

/-- The mean. -/
theorem mean_at (i : S1x2048.Idx) :
    val_main_v15 (F := Ideal) x0 x1 x2 x3 i = Rows.mean (Spec.stream x0 x1 x2 x3 (i 1)) := by
  rw [val_main_v15_apply, val_main_v14_apply, val_main_v13_apply]
  have z : val_main_cst_1 (F := Ideal) (Shape.Idx.first h_S_) = (0 : EReal) := Ideal.ofBits_zero_f32
  rw [z, zero_add]
  unfold Rows.mean
  refine congrArg (Ideal.div · Rows.len) (Finset.sum_congr rfl fun k _ => ?_)
  rw [val_main_v12_apply]
  exact stream_at x0 x1 x2 x3 _

/-- The centred entries. -/
theorem cen_at (i : S1x2048x8192.Idx) :
    val_main_v18 (F := Ideal) x0 x1 x2 x3 i = Rows.cenR (Spec.stream x0 x1 x2 x3 (i 1)) (i 2) := by
  rw [val_main_v18_apply, val_main_v17_apply, val_main_v16_apply, mean_at, val_main_v12_apply, stream_at]
  rfl

/-- The reciprocal standard deviation. -/
theorem rstd_at (i : S1x2048.Idx) :
    val_main_v25 (F := Ideal) x0 x1 x2 x3 i = Rows.rstdR (Spec.stream x0 x1 x2 x3 (i 1)) := by
  rw [val_main_v25_apply, val_main_v24_apply, val_main_v23_apply, val_main_v22_apply, val_main_v21_apply, val_main_v20_apply]
  have z : val_main_cst_3 (F := Ideal) (Shape.Idx.first h_S_) = (0 : EReal) := Ideal.ofBits_zero_f32
  rw [z, zero_add]
  unfold Rows.rstdR
  refine congrArg (fun s => Ideal.rsqrt (Ideal.div s Rows.len + Ideal.ofBits .f32 0x3727C5AC#32)) (Finset.sum_congr rfl fun k _ => ?_)
  rw [val_main_v19_apply, cen_at]
  rfl

/-- The normalized entries. -/
theorem norm_at (i : S1x2048x8192.Idx) :
    val_main_v34 (F := Ideal) x0 x1 x2 x3 x4 x5 i = Rows.normR (Spec.stream x0 x1 x2 x3 (i 1)) (Spec.vec x4) (Spec.vec x5) (i 2) := by
  rw [val_main_v34_apply, val_main_v33_apply, val_main_v32_apply, val_main_v31_apply, val_main_v30_apply, val_main_v29_apply,
    val_main_v28_apply, val_main_v27_apply, val_main_v26_apply, rstd_at, cen_at]
  have e : idx_main_v32 (idx_main_v33 i) = ix1 (show Fin 8192 from i 2) := by
    funext a; match a with | ⟨0, _⟩ => rfl
  have e' : idx_main_v29 (idx_main_v30 i) = ix1 (show Fin 8192 from i 2) := by
    funext a; match a with | ⟨0, _⟩ => rfl
  rw [e, e']
  rfl

/-- The normalized entries, by blocks of 128. -/
theorem block_at (i : S1x2048x64x128.Idx) :
    val_main_v35 (F := Ideal) x0 x1 x2 x3 x4 x5 i
      = Rows.normR (Spec.stream x0 x1 x2 x3 (i 1)) (Spec.vec x4) (Spec.vec x5)
        ⟨128 * (i 2).val + (i 3).val, by have h2 : (i 2).val < 64 := (i 2).isLt; have h3 : (i 3).val < 128 := (i 3).isLt; omega⟩ := by
  rw [val_main_v35_apply, norm_at]
  have h0 : (i 0).val < 1 := (i 0).isLt
  have h1 : (i 1).val < 2048 := (i 1).isLt
  have h2 : (i 2).val < 64 := (i 2).isLt
  have h3 : (i 3).val < 128 := (i 3).isLt
  have e1 : (show Fin 2048 from idx_main_v35 i 1) = (show Fin 2048 from i 1) :=
    Fin.ext (by show ((((i 0).val * 2048 + (i 1).val) * 64 + (i 2).val) * 128 + (i 3).val) / 8192 % 2048 = (i 1).val; omega)
  have e2 : (show Fin 8192 from idx_main_v35 i 2) = ⟨128 * (i 2).val + (i 3).val, by omega⟩ :=
    Fin.ext (by show ((((i 0).val * 2048 + (i 1).val) * 64 + (i 2).val) * 128 + (i 3).val) % 8192 = 128 * (i 2).val + (i 3).val; omega)
  exact congrArg₂ (fun R k => Rows.normR (Spec.stream x0 x1 x2 x3 R) (Spec.vec x4) (Spec.vec x5) k) e1 e2

/-- The largest magnitude of a block. -/
theorem amax_at (i : S1x2048x64.Idx) :
    val_main_v37 (F := Ideal) x0 x1 x2 x3 x4 x5 i = Rows.amaxR (Spec.stream x0 x1 x2 x3 (i 1)) (Spec.vec x4) (Spec.vec x5) (i 2) := by
  unfold val_main_v37
  rw [Host.reduce_eq_fold, Shape.ReducesTo.fold_fiber_r4_a3]
  unfold Rows.amaxR
  refine congrArg (Finset.fold max (Ideal.ofBits .f32 0xFF800000#32) · Finset.univ) (funext fun l => ?_)
  rw [val_main_v36_apply, block_at]
  rfl

/-- The powers that the count compares with. -/
theorem power_at (i : S254.Idx) :
    val_main_v45 (F := Ideal) i = Expo.powTwo (IntOp.addi 4294967170#32 (BitVec.ofNat 32 (i 0).val)) := by
  rw [val_main_v45_apply, val_main_v43_apply, val_main_v44_apply, val_main_v42_apply, val_main_v41_apply, val_main_v40_apply]
  rfl

/-- The count of the powers. -/
theorem count_at (i : S1x2048x64.Idx) :
    val_main_v52 (F := Ideal) x0 x1 x2 x3 x4 x5 i
      = Expo.count (Rows.amaxR (Spec.stream x0 x1 x2 x3 (i 1)) (Spec.vec x4) (Spec.vec x5) (i 2)) := by
  unfold val_main_v52
  rw [Host.reduce_eq_fold, Shape.ReducesTo.fold_fiber_r4_a3]
  unfold Expo.count
  refine congrArg (Finset.fold IntOp.addi 0#32 · Finset.univ) (funext fun l => ?_)
  rw [val_main_v51_apply, val_main_v50_apply, val_main_v49_apply, val_main_v47_apply, power_at, val_main_v48_apply, val_main_v46_apply,
    val_main_v39_apply, val_main_v38_apply, amax_at]
  rfl

/-- The exponent. -/
theorem expo_at (i : S1x2048x64.Idx) :
    val_main_v60 (F := Ideal) x0 x1 x2 x3 x4 x5 i = Spec.expo x0 x1 x2 x3 x4 x5 (i 1) (i 2) := by
  rw [val_main_v60_apply, val_main_v59_apply, val_main_v58_apply, val_main_v57_apply, val_main_v56_apply, val_main_v55_apply, val_main_v54_apply,
    val_main_v53_apply, val_main_call1_v1_apply, count_at, amax_at]
  rfl

/-- The scale. -/
theorem scale_at (i : S1x2048x64.Idx) :
    val_main_v63 (F := Ideal) x0 x1 x2 x3 x4 x5 i = Spec.scale x0 x1 x2 x3 x4 x5 (i 1) (i 2) := by
  rw [val_main_v63_apply, val_main_v62_apply, val_main_v61_apply, expo_at]
  rfl

/-- The reciprocal of the scale. -/
theorem inv_at (i : S1x2048x64.Idx) :
    val_main_v67 (F := Ideal) x0 x1 x2 x3 x4 x5 i = Expo.powTwo (- Spec.expo x0 x1 x2 x3 x4 x5 (i 1) (i 2)) := by
  rw [val_main_v67_apply, val_main_v66_apply, val_main_v65_apply, val_main_v64_apply, expo_at]
  rfl

/-- The codes, by blocks of 128. -/
theorem code_at (i : S1x2048x64x128.Idx) :
    val_main_v72 (F := Ideal) x0 x1 x2 x3 x4 x5 i
      = Block.clipE (Rows.normR (Spec.stream x0 x1 x2 x3 (i 1)) (Spec.vec x4) (Spec.vec x5)
          ⟨128 * (i 2).val + (i 3).val, by have h2 : (i 2).val < 64 := (i 2).isLt; have h3 : (i 3).val < 128 := (i 3).isLt; omega⟩)
        (Expo.powTwo (- Spec.expo x0 x1 x2 x3 x4 x5 (i 1) (i 2))) := by
  rw [val_main_v72_apply, val_main_v71_apply, val_main_call2_v4_apply, val_main_call2_v2_apply, val_main_call2_v1_apply, val_main_v70_apply,
    val_main_v69_apply, val_main_v68_apply, inv_at, block_at]
  rfl

/-- The mask's bytes. -/
theorem byte_at (i : S1x2048x1024.Idx) :
    val_main_v79 (F := Ideal) x3 i = BitVec.ofNat 32 (Pack.byte fun j => Spec.kept x3 (i 1)
      ⟨8 * (i 2).val + j.val, by have h2 : (i 2).val < 1024 := (i 2).isLt; omega⟩) := by
  unfold val_main_v79
  rw [Host.reduce_eq_fold, Shape.ReducesTo.fold_fiber_r4_a3, ← Pack.int_byte]
  refine congrArg (Finset.fold IntOp.addi 0#32 · Finset.univ) (funext fun l => ?_)
  rw [val_main_v78_apply, val_main_v77_apply, val_main_v76_apply, val_main_v75_apply, val_main_v74_apply, val_main_v73_apply, kept_at]
  have h0 : (i 0).val < 1 := (i 0).isLt
  have h1 : (i 1).val < 2048 := (i 1).isLt
  have h2 : (i 2).val < 1024 := (i 2).isLt
  have h3 : l.val < 8 := l.isLt
  refine congrArg₂ (fun R k => IntOp.shli .host (BitVec.setWidth 32 (Spec.kept x3 R k)) (BitVec.ofNat 32 l.val)) (Fin.ext ?_) (Fin.ext ?_)
  · show ((((i 0).val * 2048 + (i 1).val) * 1024 + (i 2).val) * 8 + l.val) / 8192 % 2048 = (i 1).val
    omega
  · show ((((i 0).val * 2048 + (i 1).val) * 1024 + (i 2).val) * 8 + l.val) % 8192 = 8 * (i 2).val + l.val
    omega

/-- The codes. -/
theorem result0 (i : S2048x8192.Idx) : val_main_v81 (F := Ideal) x0 x1 x2 x3 x4 x5 i = Spec.code x0 x1 x2 x3 x4 x5 (i 0) (i 1) := by
  rw [val_main_v81_apply, code_at]
  have h0 : (i 0).val < 2048 := (i 0).isLt
  have h1 : (i 1).val < 8192 := (i 1).isLt
  have e1 : (show Fin 2048 from idx_main_v81 i 1) = (show Fin 2048 from i 0) :=
    Fin.ext (by show ((i 0).val * 8192 + (i 1).val) / 8192 % 2048 = (i 0).val; omega)
  have e2 : (show Fin 64 from idx_main_v81 i 2) = ⟨(i 1).val / 128, by omega⟩ :=
    Fin.ext (by show ((i 0).val * 8192 + (i 1).val) / 128 % 64 = (i 1).val / 128; omega)
  have e3 : (⟨128 * (idx_main_v81 i 2).val + (idx_main_v81 i 3).val,
      by have h2 : (idx_main_v81 i 2).val < 64 := (idx_main_v81 i 2).isLt; have h3 : (idx_main_v81 i 3).val < 128 := (idx_main_v81 i 3).isLt; omega⟩ : Fin 8192) = (show Fin 8192 from i 1) :=
    Fin.ext (by
      show 128 * (((i 0).val * 8192 + (i 1).val) / 128 % 64) + ((i 0).val * 8192 + (i 1).val) % 128 = (i 1).val
      omega)
  rw [e3]
  exact congrArg₂ (fun R j => Block.clipE (Rows.normR (Spec.stream x0 x1 x2 x3 R) (Spec.vec x4) (Spec.vec x5) (i 1))
    (Expo.powTwo (- Spec.expo x0 x1 x2 x3 x4 x5 R j))) e1 e2

/-- The scales. -/
theorem result1 (i : S2048x64.Idx) : val_main_v82 (F := Ideal) x0 x1 x2 x3 x4 x5 i = Spec.scale x0 x1 x2 x3 x4 x5 (i 0) (i 1) := by
  rw [val_main_v82_apply, scale_at]
  have h0 : (i 0).val < 2048 := (i 0).isLt
  have h1 : (i 1).val < 64 := (i 1).isLt
  refine congrArg₂ (Spec.scale x0 x1 x2 x3 x4 x5) (Fin.ext ?_) (Fin.ext ?_)
  · show ((i 0).val * 64 + (i 1).val) / 64 % 2048 = (i 0).val
    omega
  · show ((i 0).val * 64 + (i 1).val) % 64 = (i 1).val
    omega

/-- The packed mask. -/
theorem result2 (i : S2048x1024.Idx) : val_main_v83 (F := Ideal) x3 i = Spec.packed x3 (i 0) (i 1) := by
  rw [val_main_v83_apply, val_main_v80_apply, byte_at]
  have h0 : (i 0).val < 2048 := (i 0).isLt
  have h1 : (i 1).val < 1024 := (i 1).isLt
  refine congrArg₂ (Spec.packed x3) (Fin.ext ?_) (Fin.ext ?_)
  · show ((i 0).val * 1024 + (i 1).val) / 1024 % 2048 = (i 0).val
    omega
  · show ((i 0).val * 1024 + (i 1).val) % 1024 = (i 1).val
    omega

/-- The residual stream. -/
theorem result5 (i : S2048x8192.Idx) : val_main_v84 (F := Ideal) x0 x1 x2 x3 i = Spec.stream x0 x1 x2 x3 (i 0) (i 1) := by
  rw [val_main_v84_apply, stream_at]
  have h0 : (i 0).val < 2048 := (i 0).isLt
  have h1 : (i 1).val < 8192 := (i 1).isLt
  refine congrArg₂ (Spec.stream x0 x1 x2 x3) (Fin.ext ?_) (Fin.ext ?_)
  · show ((i 0).val * 8192 + (i 1).val) / 8192 % 2048 = (i 0).val
    omega
  · show ((i 0).val * 8192 + (i 1).val) % 8192 = (i 1).val
    omega

end Cert.Ref
-- ==== Proof.Algebraic.lean ====
module

public import proofs.«01_k».proof.Defs
public import proofs.«01_k».proof.Proof.Finals
public import proofs.«01_k».proof.Proof.Ref
public import proofs.«01_k».proof.Proof.FrameI
public import proofs.«01_k».proof.Proof.Gen.ReferenceIdeal.Run
public import Idealize.ShloMosaic.Lib.Claim

@[expose] public section

set_option maxRecDepth 16384
set_option maxHeartbeats 400000

noncomputable section

/-! # The kernel and the reference end with the same results

Each of the six results is one function of the six arguments (`Cert.Spec`, `Cert.Rows`). The kernel's run ends with it
(`Cert.Finals`); the reference's run ends with it (`Cert.Ref`). -/

namespace Cert.Algebraic

open Idealize.ShloMosaic Idealize.ShloMosaic.TcCoe Idealize.SL.Sem Cert.Spec Cert.Entries

/-- The kernel: after every execution its six results are the functions of the arguments that `Cert.Spec` states, and
    the arguments are unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v31_0)
            = (fun z : Cert.KernelIdeal.S2048x8192.Idx => code (X m c) (A m c) (Bi m c) (Rn m c) (Ga m c) (Be m c) (z 0) (z 1))
        ∧ r.2.mem ((c.tc : Thread Cert.KernelIdeal.nD Cert.KernelIdeal.τ).loc Cert.KernelIdeal.main_v31_1)
            = (fun z : Cert.KernelIdeal.S2048x64.Idx => scale (X m c) (A m c) (Bi m c) (Rn m c) (Ga m c) (Be m c) (z 0) (z 1))
        ∧ r.2.mem ((c.tc : Thread Cert.KernelIdeal.nD Cert.KernelIdeal.τ).loc Cert.KernelIdeal.main_v31_2)
            = (fun z : Cert.KernelIdeal.S2048x1024.Idx => packed (Rn m c) (z 0) (z 1))
        ∧ r.2.mem ((c.tc : Thread Cert.KernelIdeal.nD Cert.KernelIdeal.τ).loc Cert.KernelIdeal.main_v31_3)
            = (fun z : Cert.KernelIdeal.S1x2048.Idx => Rows.mean (stream (X m c) (A m c) (Bi m c) (Rn m c) (z 1)))
        ∧ r.2.mem ((c.tc : Thread Cert.KernelIdeal.nD Cert.KernelIdeal.τ).loc Cert.KernelIdeal.main_v31_4)
            = (fun z : Cert.KernelIdeal.S1x2048.Idx => Rows.rstdR (stream (X m c) (A m c) (Bi m c) (Rn m c) (z 1)))
        ∧ r.2.mem ((c.tc : Thread Cert.KernelIdeal.nD Cert.KernelIdeal.τ).loc Cert.KernelIdeal.main_v31_5)
            = (fun z : Cert.KernelIdeal.S2048x8192.Idx => stream (X m c) (A m c) (Bi m c) (Rn m c) (z 0) (z 1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun r h c =>
      ⟨(h.2.out_eq c 8).trans (Finals.final8 m c), (h.2.out_eq c 9).trans (Finals.final9 m c),
        (h.2.out_eq c 10).trans (Finals.final10 m c), (h.2.out_eq c 11).trans (Finals.final11 m c),
        (h.2.out_eq c 12).trans (Finals.final12 m c), (h.2.out_eq c 13).trans (Finals.final13 m c), h.1 c⟩)
    (θ_run_and (Cert.KernelIdeal.Gen.unchanged m g) (Cert.KernelIdeal.Gen.run_main m g))

section Reference

open Cert.ReferenceIdeal Cert.ReferenceIdeal.Gen Cert.ReferenceIdeal.Read

/-- The reference: after every execution its six results are the same functions of its arguments, and the arguments are
    unchanged. -/
theorem reference_run (m : (ℓ : Loc nD τ sig) → Buf (Elt Ideal) ℓ) (g : Dev nD → PrngReg)
    (x0 x1 : Dev nD → S1x2048x8192.Idx → EReal) (x2 : Dev nD → S8192.Idx → EReal) (x3 : Dev nD → S1x2048x8192.Idx → BitVec 32)
    (x4 x5 : Dev nD → S8192.Idx → EReal)
    (h0 : ∀ c : Dev nD, m ((c.tc : Thread nD τ).loc main_arg0) = x0 c) (h1 : ∀ c : Dev nD, m ((c.tc : Thread nD τ).loc main_arg1) = x1 c)
    (h2 : ∀ c : Dev nD, m ((c.tc : Thread nD τ).loc main_arg2) = x2 c) (h3 : ∀ c : Dev nD, m ((c.tc : Thread nD τ).loc main_arg3) = x3 c)
    (h4 : ∀ c : Dev nD, m ((c.tc : Thread nD τ).loc main_arg4) = x4 c) (h5 : ∀ c : Dev nD, m ((c.tc : Thread nD τ).loc main_arg5) = x5 c) :
    θ_run (defs (F := Ideal)) (onTc (τ := τ) (main (F := Ideal))) ⟨m, fun _ => 0, g⟩ (fun r => ∀ c : Dev nD,
      r.2.mem ((c.tc : Thread nD τ).loc main_v81) = (fun z : S2048x8192.Idx => code (x0 c) (x1 c) (x2 c) (x3 c) (x4 c) (x5 c) (z 0) (z 1))
      ∧ r.2.mem ((c.tc : Thread nD τ).loc main_v82) = (fun z : S2048x64.Idx => scale (x0 c) (x1 c) (x2 c) (x3 c) (x4 c) (x5 c) (z 0) (z 1))
      ∧ r.2.mem ((c.tc : Thread nD τ).loc main_v83) = (fun z : S2048x1024.Idx => packed (x3 c) (z 0) (z 1))
      ∧ r.2.mem ((c.tc : Thread nD τ).loc main_v15) = (fun z : S1x2048.Idx => Rows.mean (stream (x0 c) (x1 c) (x2 c) (x3 c) (z 1)))
      ∧ r.2.mem ((c.tc : Thread nD τ).loc main_v25) = (fun z : S1x2048.Idx => Rows.rstdR (stream (x0 c) (x1 c) (x2 c) (x3 c) (z 1)))
      ∧ r.2.mem ((c.tc : Thread nD τ).loc main_v84) = (fun z : S2048x8192.Idx => stream (x0 c) (x1 c) (x2 c) (x3 c) (z 0) (z 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.ReferenceIdeal.Value.run (F := Ideal) m g)
  obtain ⟨e0, e1, e2, e3, e4, e5, ea⟩ := h c
  refine ⟨?_, ?_, ?_, ?_, ?_, ?_, ea⟩
  · refine e0.trans ((val_main_v81_eq m c).trans ?_)
    rw [h0, h1, h2, h3, h4, h5]
    exact funext fun i => Ref.result0 _ _ _ _ _ _ i
  · refine e1.trans ((val_main_v82_eq m c).trans ?_)
    rw [h0, h1, h2, h3, h4, h5]
    exact funext fun i => Ref.result1 _ _ _ _ _ _ i
  · refine e2.trans ((val_main_v83_eq _).trans ?_)
    rw [h3]
    exact funext fun i => Ref.result2 _ i
  · refine e3.trans ((val_main_v15_eq _ _ _ _).trans ?_)
    rw [h0, h1, h2, h3]
    exact funext fun i => Ref.mean_at _ _ _ _ i
  · refine e4.trans ((val_main_v25_eq _ _ _ _).trans ?_)
    rw [h0, h1, h2, h3]
    exact funext fun i => Ref.rstd_at _ _ _ _ i
  · refine e5.trans ((val_main_v84_eq _ _ _ _).trans ?_)
    rw [h0, h1, h2, h3]
    exact funext fun i => Ref.result5 _ _ _ _ i

/-- The reference's frame: its arguments end unchanged; it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2.2.2.2, sem_eq_zero_of_no_sems (by decide) r.2⟩)
    (Cert.ReferenceIdeal.Value.run (F := Ideal) m g)

end Reference

/-- The kernel and the reference, run at the exact values on equal arguments, end with equal results, all six, and leave
    their arguments unchanged. -/
theorem algebraic : Cert.algebraic_KernelIdeal_ReferenceIdeal :=
  fun m g m' g' _ h =>
    ⟨_, _, _, _, _, _, kernel_run m g,
      reference_run m' g' (X m) (A m) (Bi m) (Rn m) (Ga m) (Be m) (fun c => (h c).1) (fun c => (h c).2.1)
        (fun c => (h c).2.2.1) (fun c => (h c).2.2.2.1) (fun c => (h c).2.2.2.2.1) (fun c => (h c).2.2.2.2.2)⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything claimed: the three programs end without fault, their arguments unchanged and every semaphore counter at
    zero; the ideal program is the kernel, printed with no rewrite; and the kernel's six results are the reference's. -/
theorem claim : Cert.Claim := ⟨Cert.Kernel.Gen.facts, Cert.KernelIdeal.Gen.facts, Cert.ReferenceIdeal.Gen.facts,
  fun m ρ _ => Cert.Kernel.Gen.frame (F := Bits) m ρ,
  fun m ρ _ => Cert.KernelIdeal.Gen.frame m ρ,
  fun m ρ _ => Cert.Algebraic.reference_frame m ρ,
  trivial,
  Cert.Algebraic.algebraic⟩

end Cert.Proof

end
